-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebooks_below_infinity [hPre_codebooks_below_infinity : Cert.Pre_codebooks_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_codebooks_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebooks_below_infinity [hPre_codebooks_below_infinity : Cert.Pre_codebooks_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebooks_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_codebooks_below_infinity [hKernelIdeal : Cert.KernelIdeal.Facts] [hPre_codebooks_below_infinity : Cert.Pre_codebooks_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebooks_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_codebooks_below_infinity [hReferenceIdeal : Cert.ReferenceIdeal.Facts] [hPre_codebooks_below_infinity : Cert.Pre_codebooks_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebooks_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_codebooks_below_infinity [hKernelIdeal : Cert.KernelIdeal.Facts] [hReferenceIdeal : Cert.ReferenceIdeal.Facts] [hPre_codebooks_below_infinity : Cert.Pre_codebooks_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebooks_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_codebooks_below_infinity : Cert.Pre_codebooks_below_infinity.Facts),
    quiescent_Kernel (hKernel := hKernel)
    ∧ quiescent_KernelIdeal (hKernelIdeal := hKernelIdeal)
    ∧ quiescent_KernelIdeal_pre_codebooks_below_infinity (hKernelIdeal := hKernelIdeal) (hPre_codebooks_below_infinity := hPre_codebooks_below_infinity)
    ∧ quiescent_ReferenceIdeal (hReferenceIdeal := hReferenceIdeal)
    ∧ quiescent_ReferenceIdeal_pre_codebooks_below_infinity (hReferenceIdeal := hReferenceIdeal) (hPre_codebooks_below_infinity := hPre_codebooks_below_infinity)
    ∧ preserves_Kernel_KernelIdeal
    ∧ algebraic_KernelIdeal_ReferenceIdeal_pre_codebooks_below_infinity (hKernelIdeal := hKernelIdeal) (hReferenceIdeal := hReferenceIdeal) (hPre_codebooks_below_infinity := hPre_codebooks_below_infinity)
-- ==== Pre_codebooks_below_infinity.lean ====
abbrev S16x2048x14 : Shape := ⟨3, ![16, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S4x512x64 : Shape := ⟨3, ![4, 512, 64]⟩
abbrev S64x128 : Shape := ⟨2, ![64, 128]⟩
abbrev S128x14 : Shape := ⟨2, ![128, 14]⟩
abbrev S14 : Shape := ⟨1, ![14]⟩
abbrev S_ : Shape := ⟨0, ![]⟩

class Facts : Prop where
  bcast_S_S4x512x64 : S_.BroadcastsInDim S4x512x64 (![] : Fin 0 → Fin S4x512x64.rank)

variable [Facts]

def fn {F : FTy → Type} [FloatOps F] (main_arg0 : FVec F S16x2048x14 .f32) (main_arg1 : FVec F S14x128 .f32) (main_arg2 : FVec F S128 .f32) (main_arg3 : FVec F S128 .f32) (main_arg4 : FVec F S128 .f32) (main_arg5 : FVec F S128x64 .f32) (main_arg6 : FVec F S64 .f32) (main_arg7 : FVec F S4x512x64 .f32) (main_arg8 : FVec F S64x128 .f32) (main_arg9 : FVec F S128 .f32) (main_arg10 : FVec F S128 .f32) (main_arg11 : FVec F S128 .f32) (main_arg12 : FVec F S128x14 .f32) (main_arg13 : FVec F S14 .f32) : IVec S4x512x64 1 :=
  let main_cst : FVec F S_ .f32 := constant S_ .f32 0x7F800000#32
  let main_v0 : FVec F S4x512x64 .f32 := broadcastInDim S4x512x64 ![] bcast_S_S4x512x64 main_cst
  let main_v1 : IVec S4x512x64 1 := cmpf .olt main_arg7 main_v0
  main_v1
-- ==== Kernel.lean ====
abbrev S16x2048x14 : Shape := ⟨3, ![16, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S4x512x64 : Shape := ⟨3, ![4, 512, 64]⟩
abbrev S64x128 : Shape := ⟨2, ![64, 128]⟩
abbrev S128x14 : Shape := ⟨2, ![128, 14]⟩
abbrev S14 : Shape := ⟨1, ![14]⟩
abbrev S32768x14 : Shape := ⟨2, ![32768, 14]⟩
abbrev S4x64x512 : Shape := ⟨3, ![4, 64, 512]⟩
abbrev S_ : Shape := ⟨0, ![]⟩
abbrev S4x512 : Shape := ⟨2, ![4, 512]⟩
abbrev S4x192x512 : Shape := ⟨3, ![4, 192, 512]⟩
abbrev S1x128 : Shape := ⟨2, ![1, 128]⟩
abbrev S1x64 : Shape := ⟨2, ![1, 64]⟩
abbrev S1x14 : Shape := ⟨2, ![1, 14]⟩
abbrev S32768x4 : Shape := ⟨2, ![32768, 4]⟩
abbrev S1x1 : Shape := ⟨2, ![1, 1]⟩
abbrev S1x512 : Shape := ⟨2, ![1, 512]⟩
abbrev S512x14 : Shape := ⟨2, ![512, 14]⟩
abbrev S512x4 : Shape := ⟨2, ![512, 4]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S1x64x512 : Shape := ⟨3, ![1, 64, 512]⟩
abbrev S64x512 : Shape := ⟨2, ![64, 512]⟩
abbrev S1x192x512 : Shape := ⟨3, ![1, 192, 512]⟩
abbrev S192x512 : Shape := ⟨2, ![192, 512]⟩
abbrev S512x192 : Shape := ⟨2, ![512, 192]⟩
abbrev S1x512x64 : Shape := ⟨3, ![1, 512, 64]⟩
abbrev S1 : Shape := ⟨1, ![1]⟩
abbrev S1x1x1 : Shape := ⟨3, ![1, 1, 1]⟩
abbrev S1x1x512 : Shape := ⟨3, ![1, 1, 512]⟩
abbrev S16x2048x4 : Shape := ⟨3, ![16, 2048, 4]⟩

abbrev nBuf : Space → Nat
  | .hbm => 51
  | .vmem => 24
  | .smem => 0
  | _ => 0

abbrev bufTy : (tb : Table) → Fin (tcTables nBuf tb) → BufTy
  | .hbm, ⟨0, _⟩ => ⟨S16x2048x14, .f32⟩
  | .hbm, ⟨1, _⟩ => ⟨S14x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S4x512x64, .f32⟩
  | .hbm, ⟨8, _⟩ => ⟨S64x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x14, .f32⟩
  | .hbm, ⟨13, _⟩ => ⟨S14, .f32⟩
  | .hbm, ⟨14, _⟩ => ⟨S32768x14, .f32⟩
  | .hbm, ⟨15, _⟩ => ⟨S4x64x512, .f32⟩
  | .hbm, ⟨16, _⟩ => ⟨S4x64x512, .bf16⟩
  | .hbm, ⟨17, _⟩ => ⟨S4x64x512, .f32⟩
  | .hbm, ⟨18, _⟩ => ⟨S4x64x512, .f32⟩
  | .hbm, ⟨19, _⟩ => ⟨S4x64x512, .bf16⟩
  | .hbm, ⟨20, _⟩ => ⟨S4x64x512, .f32⟩
  | .hbm, ⟨21, _⟩ => ⟨S4x64x512, .f32⟩
  | .hbm, ⟨22, _⟩ => ⟨S4x64x512, .bf16⟩
  | .hbm, ⟨23, _⟩ => ⟨S4x64x512, .bf16⟩
  | .hbm, ⟨24, _⟩ => ⟨S4x64x512, .bf16⟩
  | .hbm, ⟨25, _⟩ => ⟨S4x512x64, .f32⟩
  | .hbm, ⟨26, _⟩ => ⟨S_, .f32⟩
  | .hbm, ⟨27, _⟩ => ⟨S4x512, .f32⟩
  | .hbm, ⟨28, _⟩ => ⟨S4x192x512, .bf16⟩
  | .hbm, ⟨29, _⟩ => ⟨S14x128, .bf16⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S128x64, .bf16⟩
  | .hbm, ⟨34, _⟩ => ⟨S1x64, .f32⟩
  | .hbm, ⟨35, _⟩ => ⟨S4x64x512, .bf16⟩
  | .hbm, ⟨36, _⟩ => ⟨S64x128, .bf16⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S128x14, .bf16⟩
  | .hbm, ⟨41, _⟩ => ⟨S1x14, .f32⟩
  | .hbm, ⟨42, _⟩ => ⟨S32768x14, .f32⟩
  | .hbm, ⟨43, _⟩ => ⟨S32768x4, .i32⟩
  | .hbm, ⟨44, _⟩ => ⟨S1x1, .f32⟩
  | .hbm, ⟨45, _⟩ => ⟨S1x512, .f32⟩
  | .hbm, ⟨46, _⟩ => ⟨S1x1, .f32⟩
  | .hbm, ⟨47, _⟩ => ⟨S16x2048x14, .f32⟩
  | .hbm, ⟨48, _⟩ => ⟨S16x2048x4, .i32⟩
  | .hbm, ⟨49, _⟩ => ⟨S_, .f32⟩
  | .hbm, ⟨50, _⟩ => ⟨S_, .f32⟩
  | .local _ .vmem, ⟨0, _⟩ => ⟨S512x14, .f32⟩
  | .local _ .vmem, ⟨1, _⟩ => ⟨S512x14, .f32⟩
  | .local _ .vmem, ⟨2, _⟩ => ⟨S14x128, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S4x512, .f32⟩
  | .local _ .vmem, ⟨9, _⟩ => ⟨S4x64x512, .bf16⟩
  | .local _ .vmem, ⟨10, _⟩ => ⟨S4x192x512, .bf16⟩
  | .local _ .vmem, ⟨11, _⟩ => ⟨S64x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x14, .bf16⟩
  | .local _ .vmem, ⟨16, _⟩ => ⟨S1x14, .f32⟩
  | .local _ .vmem, ⟨17, _⟩ => ⟨S512x14, .f32⟩
  | .local _ .vmem, ⟨18, _⟩ => ⟨S512x14, .f32⟩
  | .local _ .vmem, ⟨19, _⟩ => ⟨S512x4, .i32⟩
  | .local _ .vmem, ⟨20, _⟩ => ⟨S512x4, .i32⟩
  | .local _ .vmem, ⟨21, _⟩ => ⟨S1x1, .f32⟩
  | .local _ .vmem, ⟨22, _⟩ => ⟨S1x512, .f32⟩
  | .local _ .vmem, ⟨23, _⟩ => ⟨S1x1, .f32⟩
  | _, _ => ⟨S16x2048x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem19_0 : DmaSem sig := 22
abbrev cc0_sem20_0 : DmaSem sig := 23

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c63_i32 : BitVec 32 := 63#32
  let v343 : BitVec 1 := Scalar.cmpi .eq arg0 c63_i32
  let v344 : BitVec 32 := Scalar.extui v343
  let c0_i32_136 : BitVec 32 := 0#32
  let v345 : BitVec 1 := Scalar.cmpi .ne v344 c0_i32_136
  v345

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x192x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x14 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x14 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x14 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x4 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S16x2048x14 : Shape := ⟨3, ![16, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S4x512x64 : Shape := ⟨3, ![4, 512, 64]⟩
abbrev S64x128 : Shape := ⟨2, ![64, 128]⟩
abbrev S128x14 : Shape := ⟨2, ![128, 14]⟩
abbrev S14 : Shape := ⟨1, ![14]⟩
abbrev S16x2048x128 : Shape := ⟨3, ![16, 2048, 128]⟩
abbrev S1x1x128 : Shape := ⟨3, ![1, 1, 128]⟩
abbrev S_ : Shape := ⟨0, ![]⟩
abbrev S16x2048 : Shape := ⟨2, ![16, 2048]⟩
abbrev S16x2048x1 : Shape := ⟨3, ![16, 2048, 1]⟩
abbrev S16x2048x64 : Shape := ⟨3, ![16, 2048, 64]⟩
abbrev S1x1x64 : Shape := ⟨3, ![1, 1, 64]⟩
abbrev S1x512x64 : Shape := ⟨3, ![1, 512, 64]⟩
abbrev S512x64 : Shape := ⟨2, ![512, 64]⟩
abbrev S64x512 : Shape := ⟨2, ![64, 512]⟩
abbrev S16x2048x512 : Shape := ⟨3, ![16, 2048, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S16x2048x4 : Shape := ⟨3, ![16, 2048, 4]⟩
abbrev S1x1x14 : Shape := ⟨3, ![1, 1, 14]⟩
abbrev S32768 : Shape := ⟨1, ![32768]⟩
abbrev S32768x512 : Shape := ⟨2, ![32768, 512]⟩
abbrev S32768x1 : Shape := ⟨2, ![32768, 1]⟩
abbrev S32768x2 : Shape := ⟨2, ![32768, 2]⟩

abbrev nBuf : Space → Nat
  | .hbm => 434
  | .vmem => 0
  | .smem => 0
  | _ => 0

abbrev hbmTy0_0 (i : Nat) : BufTy := match i % 128 with
  | 0 => ⟨S16x2048x14, .f32⟩
  | 1 => ⟨S14x128, .f32⟩
  | 2 => ⟨S128, .f32⟩
  | 3 => ⟨S128, .f32⟩
  | 4 => ⟨S128, .f32⟩
  | 5 => ⟨S128x64, .f32⟩
  | 6 => ⟨S64, .f32⟩
  | 7 => ⟨S4x512x64, .f32⟩
  | 8 => ⟨S64x128, .f32⟩
  | 9 => ⟨S128, .f32⟩
  | 10 => ⟨S128, .f32⟩
  | 11 => ⟨S128, .f32⟩
  | 12 => ⟨S128x14, .f32⟩
  | 13 => ⟨S14, .f32⟩
  | 14 => ⟨S16x2048x128, .f32⟩
  | 15 => ⟨S1x1x128, .f32⟩
  | 16 => ⟨S16x2048x128, .f32⟩
  | 17 => ⟨S16x2048x128, .f32⟩
  | 18 => ⟨S_, .f32⟩
  | 19 => ⟨S16x2048, .f32⟩
  | 20 => ⟨S16x2048x1, .f32⟩
  | 21 => ⟨S_, .f32⟩
  | 22 => ⟨S16x2048x1, .f32⟩
  | 23 => ⟨S16x2048x1, .f32⟩
  | 24 => ⟨S_, .i32⟩
  | 25 => ⟨S_, .f32⟩
  | 26 => ⟨S16x2048, .f32⟩
  | 27 => ⟨S16x2048x1, .f32⟩
  | 28 => ⟨S_, .f32⟩
  | 29 => ⟨S16x2048x1, .f32⟩
  | 30 => ⟨S16x2048x1, .f32⟩
  | 31 => ⟨S16x2048x128, .f32⟩
  | 32 => ⟨S16x2048x128, .f32⟩
  | 33 => ⟨S16x2048x128, .f32⟩
  | 34 => ⟨S_, .f32⟩
  | 35 => ⟨S_, .f32⟩
  | 36 => ⟨S_, .f32⟩
  | 37 => ⟨S_, .f32⟩
  | 38 => ⟨S16x2048, .f32⟩
  | 39 => ⟨S16x2048x1, .f32⟩
  | 40 => ⟨S16x2048x1, .f32⟩
  | 41 => ⟨S16x2048x1, .f32⟩
  | 42 => ⟨S_, .f32⟩
  | 43 => ⟨S_, .i1⟩
  | 44 => ⟨S_, .f32⟩
  | 45 => ⟨S_, .f32⟩
  | 46 => ⟨S16x2048x1, .f32⟩
  | 47 => ⟨S16x2048x1, .f32⟩
  | 48 => ⟨S16x2048x128, .f32⟩
  | 49 => ⟨S16x2048x128, .f32⟩
  | 50 => ⟨S_, .f32⟩
  | 51 => ⟨S16x2048x1, .f32⟩
  | 52 => ⟨S16x2048x1, .f32⟩
  | 53 => ⟨S16x2048x1, .f32⟩
  | 54 => ⟨S16x2048x128, .f32⟩
  | 55 => ⟨S16x2048x128, .f32⟩
  | 56 => ⟨S1x1x128, .f32⟩
  | 57 => ⟨S16x2048x128, .f32⟩
  | 58 => ⟨S16x2048x128, .f32⟩
  | 59 => ⟨S1x1x128, .f32⟩
  | 60 => ⟨S16x2048x128, .f32⟩
  | 61 => ⟨S16x2048x128, .f32⟩
  | 62 => ⟨S16x2048x128, .f32⟩
  | 63 => ⟨S16x2048x128, .f32⟩
  | 64 => ⟨S_, .f32⟩
  | 65 => ⟨S16x2048x128, .f32⟩
  | 66 => ⟨S16x2048x128, .f32⟩
  | 67 => ⟨S16x2048x128, .f32⟩
  | 68 => ⟨S_, .f32⟩
  | 69 => ⟨S16x2048x128, .f32⟩
  | 70 => ⟨S16x2048x128, .f32⟩
  | 71 => ⟨S16x2048x128, .f32⟩
  | 72 => ⟨S_, .f32⟩
  | 73 => ⟨S16x2048x128, .f32⟩
  | 74 => ⟨S16x2048x128, .f32⟩
  | 75 => ⟨S_, .f32⟩
  | 76 => ⟨S16x2048x128, .f32⟩
  | 77 => ⟨S16x2048x128, .f32⟩
  | 78 => ⟨S16x2048x128, .f32⟩
  | 79 => ⟨S16x2048x64, .f32⟩
  | 80 => ⟨S1x1x64, .f32⟩
  | 81 => ⟨S16x2048x64, .f32⟩
  | 82 => ⟨S16x2048x64, .f32⟩
  | 83 => ⟨S_, .f32⟩
  | 84 => ⟨S16x2048x64, .f32⟩
  | 85 => ⟨S1x512x64, .f32⟩
  | 86 => ⟨S512x64, .f32⟩
  | 87 => ⟨S16x2048x64, .f32⟩
  | 88 => ⟨S_, .f32⟩
  | 89 => ⟨S16x2048, .f32⟩
  | 90 => ⟨S16x2048x1, .f32⟩
  | 91 => ⟨S64x512, .f32⟩
  | 92 => ⟨S16x2048x512, .f32⟩
  | 93 => ⟨S_, .f32⟩
  | 94 => ⟨S16x2048x512, .f32⟩
  | 95 => ⟨S16x2048x512, .f32⟩
  | 96 => ⟨S16x2048x512, .f32⟩
  | 97 => ⟨S16x2048x512, .f32⟩
  | 98 => ⟨S512x64, .f32⟩
  | 99 => ⟨S_, .f32⟩
  | 100 => ⟨S512, .f32⟩
  | 101 => ⟨S1x1x512, .f32⟩
  | 102 => ⟨S16x2048x512, .f32⟩
  | 103 => ⟨S16x2048x512, .f32⟩
  | 104 => ⟨S16x2048x512, .i32⟩
  | 105 => ⟨S_, .f32⟩
  | 106 => ⟨S_, .i32⟩
  | 107 => ⟨S16x2048, .f32⟩
  | 108 => ⟨S16x2048, .i32⟩
  | 109 => ⟨S_, .i32⟩
  | 110 => ⟨S16x2048, .i32⟩
  | 111 => ⟨S16x2048, .i1⟩
  | 112 => ⟨S_, .i32⟩
  | 113 => ⟨S16x2048, .i32⟩
  | 114 => ⟨S16x2048, .i32⟩
  | 115 => ⟨S16x2048, .i32⟩
  | 116 => ⟨S16x2048x1, .i32⟩
  | 117 => ⟨S1, .i32⟩
  | 118 => ⟨S_, .i32⟩
  | 119 => ⟨S16x2048x1, .i32⟩
  | 120 => ⟨S16x2048x1, .i1⟩
  | 121 => ⟨S1x1x1, .i32⟩
  | 122 => ⟨S16x2048x1, .i32⟩
  | 123 => ⟨S16x2048x1, .i1⟩
  | 124 => ⟨S16x2048x1, .i1⟩
  | 125 => ⟨S_, .i1⟩
  | 126 => ⟨S16x2048, .i1⟩
  | 127 => ⟨S16x2048x64, .f32⟩
  | _ => ⟨S16x2048x14, .f32⟩

abbrev hbmTy0_1 (i : Nat) : BufTy := match i % 128 with
  | 0 => ⟨S16x2048x64, .i1⟩
  | 1 => ⟨S_, .f32⟩
  | 2 => ⟨S16x2048x64, .f32⟩
  | 3 => ⟨S16x2048x64, .f32⟩
  | 4 => ⟨S16x2048x64, .f32⟩
  | 5 => ⟨S16x2048x64, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S16x2048x64, .f32⟩
  | 15 => ⟨S16x2048x64, .f32⟩
  | 16 => ⟨S1x512x64, .f32⟩
  | 17 => ⟨S512x64, .f32⟩
  | 18 => ⟨S16x2048x64, .f32⟩
  | 19 => ⟨S_, .f32⟩
  | 20 => ⟨S16x2048, .f32⟩
  | 21 => ⟨S16x2048x1, .f32⟩
  | 22 => ⟨S64x512, .f32⟩
  | 23 => ⟨S16x2048x512, .f32⟩
  | 24 => ⟨S_, .f32⟩
  | 25 => ⟨S16x2048x512, .f32⟩
  | 26 => ⟨S16x2048x512, .f32⟩
  | 27 => ⟨S16x2048x512, .f32⟩
  | 28 => ⟨S16x2048x512, .f32⟩
  | 29 => ⟨S512x64, .f32⟩
  | 30 => ⟨S_, .f32⟩
  | 31 => ⟨S512, .f32⟩
  | 32 => ⟨S1x1x512, .f32⟩
  | 33 => ⟨S16x2048x512, .f32⟩
  | 34 => ⟨S16x2048x512, .f32⟩
  | 35 => ⟨S16x2048x512, .i32⟩
  | 36 => ⟨S_, .f32⟩
  | 37 => ⟨S_, .i32⟩
  | 38 => ⟨S16x2048, .f32⟩
  | 39 => ⟨S16x2048, .i32⟩
  | 40 => ⟨S_, .i32⟩
  | 41 => ⟨S16x2048, .i32⟩
  | 42 => ⟨S16x2048, .i1⟩
  | 43 => ⟨S_, .i32⟩
  | 44 => ⟨S16x2048, .i32⟩
  | 45 => ⟨S16x2048, .i32⟩
  | 46 => ⟨S16x2048, .i32⟩
  | 47 => ⟨S16x2048x1, .i32⟩
  | 48 => ⟨S1, .i32⟩
  | 49 => ⟨S_, .i32⟩
  | 50 => ⟨S16x2048x1, .i32⟩
  | 51 => ⟨S16x2048x1, .i1⟩
  | 52 => ⟨S1x1x1, .i32⟩
  | 53 => ⟨S16x2048x1, .i32⟩
  | 54 => ⟨S16x2048x1, .i1⟩
  | 55 => ⟨S16x2048x1, .i1⟩
  | 56 => ⟨S_, .i1⟩
  | 57 => ⟨S16x2048, .i1⟩
  | 58 => ⟨S16x2048x64, .f32⟩
  | 59 => ⟨S16x2048x64, .i1⟩
  | 60 => ⟨S_, .f32⟩
  | 61 => ⟨S16x2048x64, .f32⟩
  | 62 => ⟨S16x2048x64, .f32⟩
  | 63 => ⟨S16x2048x64, .f32⟩
  | 64 => ⟨S16x2048x64, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S16x2048x64, .f32⟩
  | 73 => ⟨S16x2048x64, .f32⟩
  | 74 => ⟨S1x512x64, .f32⟩
  | 75 => ⟨S512x64, .f32⟩
  | 76 => ⟨S16x2048x64, .f32⟩
  | 77 => ⟨S_, .f32⟩
  | 78 => ⟨S16x2048, .f32⟩
  | 79 => ⟨S16x2048x1, .f32⟩
  | 80 => ⟨S64x512, .f32⟩
  | 81 => ⟨S16x2048x512, .f32⟩
  | 82 => ⟨S_, .f32⟩
  | 83 => ⟨S16x2048x512, .f32⟩
  | 84 => ⟨S16x2048x512, .f32⟩
  | 85 => ⟨S16x2048x512, .f32⟩
  | 86 => ⟨S16x2048x512, .f32⟩
  | 87 => ⟨S512x64, .f32⟩
  | 88 => ⟨S_, .f32⟩
  | 89 => ⟨S512, .f32⟩
  | 90 => ⟨S1x1x512, .f32⟩
  | 91 => ⟨S16x2048x512, .f32⟩
  | 92 => ⟨S16x2048x512, .f32⟩
  | 93 => ⟨S16x2048x512, .i32⟩
  | 94 => ⟨S_, .f32⟩
  | 95 => ⟨S_, .i32⟩
  | 96 => ⟨S16x2048, .f32⟩
  | 97 => ⟨S16x2048, .i32⟩
  | 98 => ⟨S_, .i32⟩
  | 99 => ⟨S16x2048, .i32⟩
  | 100 => ⟨S16x2048, .i1⟩
  | 101 => ⟨S_, .i32⟩
  | 102 => ⟨S16x2048, .i32⟩
  | 103 => ⟨S16x2048, .i32⟩
  | 104 => ⟨S16x2048, .i32⟩
  | 105 => ⟨S16x2048x1, .i32⟩
  | 106 => ⟨S1, .i32⟩
  | 107 => ⟨S_, .i32⟩
  | 108 => ⟨S16x2048x1, .i32⟩
  | 109 => ⟨S16x2048x1, .i1⟩
  | 110 => ⟨S1x1x1, .i32⟩
  | 111 => ⟨S16x2048x1, .i32⟩
  | 112 => ⟨S16x2048x1, .i1⟩
  | 113 => ⟨S16x2048x1, .i1⟩
  | 114 => ⟨S_, .i1⟩
  | 115 => ⟨S16x2048, .i1⟩
  | 116 => ⟨S16x2048x64, .f32⟩
  | 117 => ⟨S16x2048x64, .i1⟩
  | 118 => ⟨S_, .f32⟩
  | 119 => ⟨S16x2048x64, .f32⟩
  | 120 => ⟨S16x2048x64, .f32⟩
  | 121 => ⟨S16x2048x64, .f32⟩
  | 122 => ⟨S16x2048x64, .f32⟩
  | 123 => ⟨S_, .f32⟩
  | 124 => ⟨S_, .f32⟩
  | 125 => ⟨S_, .f32⟩
  | 126 => ⟨S_, .f32⟩
  | 127 => ⟨S_, .f32⟩
  | _ => ⟨S16x2048x14, .f32⟩

abbrev hbmTy0_2 (i : Nat) : BufTy := match i % 128 with
  | 0 => ⟨S_, .f32⟩
  | 1 => ⟨S_, .f32⟩
  | 2 => ⟨S16x2048x64, .f32⟩
  | 3 => ⟨S16x2048x64, .f32⟩
  | 4 => ⟨S1x512x64, .f32⟩
  | 5 => ⟨S512x64, .f32⟩
  | 6 => ⟨S16x2048x64, .f32⟩
  | 7 => ⟨S_, .f32⟩
  | 8 => ⟨S16x2048, .f32⟩
  | 9 => ⟨S16x2048x1, .f32⟩
  | 10 => ⟨S64x512, .f32⟩
  | 11 => ⟨S16x2048x512, .f32⟩
  | 12 => ⟨S_, .f32⟩
  | 13 => ⟨S16x2048x512, .f32⟩
  | 14 => ⟨S16x2048x512, .f32⟩
  | 15 => ⟨S16x2048x512, .f32⟩
  | 16 => ⟨S16x2048x512, .f32⟩
  | 17 => ⟨S512x64, .f32⟩
  | 18 => ⟨S_, .f32⟩
  | 19 => ⟨S512, .f32⟩
  | 20 => ⟨S1x1x512, .f32⟩
  | 21 => ⟨S16x2048x512, .f32⟩
  | 22 => ⟨S16x2048x512, .f32⟩
  | 23 => ⟨S16x2048x512, .i32⟩
  | 24 => ⟨S_, .f32⟩
  | 25 => ⟨S_, .i32⟩
  | 26 => ⟨S16x2048, .f32⟩
  | 27 => ⟨S16x2048, .i32⟩
  | 28 => ⟨S_, .i32⟩
  | 29 => ⟨S16x2048, .i32⟩
  | 30 => ⟨S16x2048, .i1⟩
  | 31 => ⟨S_, .i32⟩
  | 32 => ⟨S16x2048, .i32⟩
  | 33 => ⟨S16x2048, .i32⟩
  | 34 => ⟨S16x2048, .i32⟩
  | 35 => ⟨S16x2048x1, .i32⟩
  | 36 => ⟨S1, .i32⟩
  | 37 => ⟨S_, .i32⟩
  | 38 => ⟨S16x2048x1, .i32⟩
  | 39 => ⟨S16x2048x1, .i1⟩
  | 40 => ⟨S1x1x1, .i32⟩
  | 41 => ⟨S16x2048x1, .i32⟩
  | 42 => ⟨S16x2048x1, .i1⟩
  | 43 => ⟨S16x2048x1, .i1⟩
  | 44 => ⟨S_, .i1⟩
  | 45 => ⟨S16x2048, .i1⟩
  | 46 => ⟨S16x2048x64, .f32⟩
  | 47 => ⟨S16x2048x64, .i1⟩
  | 48 => ⟨S_, .f32⟩
  | 49 => ⟨S16x2048x64, .f32⟩
  | 50 => ⟨S16x2048x64, .f32⟩
  | 51 => ⟨S16x2048x64, .f32⟩
  | 52 => ⟨S16x2048x64, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S16x2048x64, .f32⟩
  | 61 => ⟨S16x2048x64, .f32⟩
  | 62 => ⟨S16x2048x1, .i32⟩
  | 63 => ⟨S16x2048x1, .i32⟩
  | 64 => ⟨S16x2048x1, .i32⟩
  | 65 => ⟨S16x2048x1, .i32⟩
  | 66 => ⟨S16x2048x4, .i32⟩
  | 67 => ⟨S16x2048x64, .f32⟩
  | 68 => ⟨S16x2048x64, .f32⟩
  | 69 => ⟨S16x2048x128, .f32⟩
  | 70 => ⟨S1x1x128, .f32⟩
  | 71 => ⟨S16x2048x128, .f32⟩
  | 72 => ⟨S16x2048x128, .f32⟩
  | 73 => ⟨S_, .f32⟩
  | 74 => ⟨S16x2048, .f32⟩
  | 75 => ⟨S16x2048x1, .f32⟩
  | 76 => ⟨S_, .f32⟩
  | 77 => ⟨S16x2048x1, .f32⟩
  | 78 => ⟨S16x2048x1, .f32⟩
  | 79 => ⟨S_, .i32⟩
  | 80 => ⟨S_, .f32⟩
  | 81 => ⟨S16x2048, .f32⟩
  | 82 => ⟨S16x2048x1, .f32⟩
  | 83 => ⟨S_, .f32⟩
  | 84 => ⟨S16x2048x1, .f32⟩
  | 85 => ⟨S16x2048x1, .f32⟩
  | 86 => ⟨S16x2048x128, .f32⟩
  | 87 => ⟨S16x2048x128, .f32⟩
  | 88 => ⟨S16x2048x128, .f32⟩
  | 89 => ⟨S_, .f32⟩
  | 90 => ⟨S_, .f32⟩
  | 91 => ⟨S_, .f32⟩
  | 92 => ⟨S_, .f32⟩
  | 93 => ⟨S16x2048, .f32⟩
  | 94 => ⟨S16x2048x1, .f32⟩
  | 95 => ⟨S16x2048x1, .f32⟩
  | 96 => ⟨S16x2048x1, .f32⟩
  | 97 => ⟨S_, .f32⟩
  | 98 => ⟨S_, .i1⟩
  | 99 => ⟨S_, .f32⟩
  | 100 => ⟨S_, .f32⟩
  | 101 => ⟨S16x2048x1, .f32⟩
  | 102 => ⟨S16x2048x1, .f32⟩
  | 103 => ⟨S16x2048x128, .f32⟩
  | 104 => ⟨S16x2048x128, .f32⟩
  | 105 => ⟨S_, .f32⟩
  | 106 => ⟨S16x2048x1, .f32⟩
  | 107 => ⟨S16x2048x1, .f32⟩
  | 108 => ⟨S16x2048x1, .f32⟩
  | 109 => ⟨S16x2048x128, .f32⟩
  | 110 => ⟨S16x2048x128, .f32⟩
  | 111 => ⟨S1x1x128, .f32⟩
  | 112 => ⟨S16x2048x128, .f32⟩
  | 113 => ⟨S16x2048x128, .f32⟩
  | 114 => ⟨S1x1x128, .f32⟩
  | 115 => ⟨S16x2048x128, .f32⟩
  | 116 => ⟨S16x2048x128, .f32⟩
  | 117 => ⟨S16x2048x128, .f32⟩
  | 118 => ⟨S16x2048x128, .f32⟩
  | 119 => ⟨S_, .f32⟩
  | 120 => ⟨S16x2048x128, .f32⟩
  | 121 => ⟨S16x2048x128, .f32⟩
  | 122 => ⟨S16x2048x128, .f32⟩
  | 123 => ⟨S_, .f32⟩
  | 124 => ⟨S16x2048x128, .f32⟩
  | 125 => ⟨S16x2048x128, .f32⟩
  | 126 => ⟨S16x2048x128, .f32⟩
  | 127 => ⟨S_, .f32⟩
  | _ => ⟨S16x2048x14, .f32⟩

abbrev hbmTy0_3 (i : Nat) : BufTy := match i % 128 with
  | 0 => ⟨S16x2048x128, .f32⟩
  | 1 => ⟨S16x2048x128, .f32⟩
  | 2 => ⟨S_, .f32⟩
  | 3 => ⟨S16x2048x128, .f32⟩
  | 4 => ⟨S16x2048x128, .f32⟩
  | 5 => ⟨S16x2048x128, .f32⟩
  | 6 => ⟨S16x2048x14, .f32⟩
  | 7 => ⟨S1x1x14, .f32⟩
  | 8 => ⟨S16x2048x14, .f32⟩
  | 9 => ⟨S16x2048x14, .f32⟩
  | 10 => ⟨S16x2048x1, .i32⟩
  | 11 => ⟨S16x2048, .i32⟩
  | 12 => ⟨S32768, .i32⟩
  | 13 => ⟨S_, .f32⟩
  | 14 => ⟨S32768x512, .f32⟩
  | 15 => ⟨S32768, .i32⟩
  | 16 => ⟨S_, .i32⟩
  | 17 => ⟨S32768, .i32⟩
  | 18 => ⟨S32768, .i1⟩
  | 19 => ⟨S_, .i32⟩
  | 20 => ⟨S32768, .i32⟩
  | 21 => ⟨S32768, .i32⟩
  | 22 => ⟨S32768, .i32⟩
  | 23 => ⟨S_, .i32⟩
  | 24 => ⟨S32768, .i32⟩
  | 25 => ⟨S32768, .i1⟩
  | 26 => ⟨S_, .i32⟩
  | 27 => ⟨S32768, .i32⟩
  | 28 => ⟨S32768, .i32⟩
  | 29 => ⟨S32768, .i32⟩
  | 30 => ⟨S32768x1, .i32⟩
  | 31 => ⟨S32768x1, .i32⟩
  | 32 => ⟨S32768x2, .i32⟩
  | 33 => ⟨S_, .f32⟩
  | 34 => ⟨S32768, .f32⟩
  | 35 => ⟨S32768x512, .f32⟩
  | 36 => ⟨S_, .f32⟩
  | 37 => ⟨S512, .f32⟩
  | 38 => ⟨S_, .f32⟩
  | 39 => ⟨S512, .f32⟩
  | 40 => ⟨S512, .f32⟩
  | 41 => ⟨S_, .f32⟩
  | 42 => ⟨S512, .f32⟩
  | 43 => ⟨S512, .f32⟩
  | 44 => ⟨S512, .f32⟩
  | 45 => ⟨S512, .f32⟩
  | 46 => ⟨S_, .f32⟩
  | 47 => ⟨S_, .f32⟩
  | 48 => ⟨S_, .f32⟩
  | 49 => ⟨S_, .f32⟩
  | _ => ⟨S16x2048x14, .f32⟩

abbrev hbmTy (i : Nat) : BufTy := match i / 128 with
  | 0 => hbmTy0_0 i
  | 1 => hbmTy0_1 i
  | 2 => hbmTy0_2 i
  | 3 => hbmTy0_3 i
  | _ => ⟨S16x2048x14, .f32⟩

abbrev bufTy : (tb : Table) → Fin (tcTables nBuf tb) → BufTy
  | .hbm, ⟨i, _⟩ => hbmTy i
  | _, _ => ⟨S16x2048x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_c : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_cst_0 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_cst_1 : Ref sig .tc := ⟨.hbm, 35, rfl⟩
abbrev main_call0_call0_v8 : Ref sig .tc := ⟨.hbm, 36, rfl⟩
abbrev main_call0_call0_cst_2 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_cst_3 : Ref sig .tc := ⟨.hbm, 42, rfl⟩
abbrev main_call0_call0_v13 : Ref sig .tc := ⟨.hbm, 43, rfl⟩
abbrev main_call0_call0_cst_4 : Ref sig .tc := ⟨.hbm, 44, rfl⟩
abbrev main_call0_call0_call0_v0 : Ref sig .tc := ⟨.hbm, 45, rfl⟩
abbrev main_call0_call0_call0_v1 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_call0_v17 : Ref sig .tc := ⟨.hbm, 61, rfl⟩
abbrev main_call0_v18 : Ref sig .tc := ⟨.hbm, 62, rfl⟩
abbrev main_call0_v19 : Ref sig .tc := ⟨.hbm, 63, rfl⟩
abbrev main_call0_cst_2 : Ref sig .tc := ⟨.hbm, 64, rfl⟩
abbrev main_call0_v20 : Ref sig .tc := ⟨.hbm, 65, rfl⟩
abbrev main_call0_v21 : Ref sig .tc := ⟨.hbm, 66, rfl⟩
abbrev main_call0_v22 : Ref sig .tc := ⟨.hbm, 67, rfl⟩
abbrev main_call0_cst_3 : Ref sig .tc := ⟨.hbm, 68, rfl⟩
abbrev main_call0_v23 : Ref sig .tc := ⟨.hbm, 69, rfl⟩
abbrev main_call0_v24 : Ref sig .tc := ⟨.hbm, 70, rfl⟩
abbrev main_call0_v25 : Ref sig .tc := ⟨.hbm, 71, rfl⟩
abbrev main_call0_cst_4 : Ref sig .tc := ⟨.hbm, 72, rfl⟩
abbrev main_call0_v26 : Ref sig .tc := ⟨.hbm, 73, rfl⟩
abbrev main_call0_v27 : Ref sig .tc := ⟨.hbm, 74, rfl⟩
abbrev main_call0_cst_5 : Ref sig .tc := ⟨.hbm, 75, rfl⟩
abbrev main_call0_v28 : Ref sig .tc := ⟨.hbm, 76, rfl⟩
abbrev main_call0_v29 : Ref sig .tc := ⟨.hbm, 77, rfl⟩
abbrev main_v4 : Ref sig .tc := ⟨.hbm, 78, rfl⟩
abbrev main_v5 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_cst : Ref sig .tc := ⟨.hbm, 83, rfl⟩
abbrev main_v9 : Ref sig .tc := ⟨.hbm, 84, rfl⟩
abbrev main_v10 : Ref sig .tc := ⟨.hbm, 85, rfl⟩
abbrev main_v11 : Ref sig .tc := ⟨.hbm, 86, rfl⟩
abbrev main_call1_v0 : Ref sig .tc := ⟨.hbm, 87, rfl⟩
abbrev main_call1_cst : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_cst_0 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_cst_1 : Ref sig .tc := ⟨.hbm, 99, rfl⟩
abbrev main_call1_v10 : Ref sig .tc := ⟨.hbm, 100, rfl⟩
abbrev main_call1_v11 : Ref sig .tc := ⟨.hbm, 101, rfl⟩
abbrev main_call1_v12 : Ref sig .tc := ⟨.hbm, 102, rfl⟩
abbrev main_call1_v13 : Ref sig .tc := ⟨.hbm, 103, rfl⟩
abbrev main_call1_call0_v0 : Ref sig .tc := ⟨.hbm, 104, rfl⟩
abbrev main_call1_call0_cst : Ref sig .tc := ⟨.hbm, 105, rfl⟩
abbrev main_call1_call0_c : Ref sig .tc := ⟨.hbm, 106, rfl⟩
abbrev main_call1_call0_v1_0 : Ref sig .tc := ⟨.hbm, 107, rfl⟩
abbrev main_v12_0 : Ref sig .tc := ⟨.hbm, 108, rfl⟩
abbrev main_call1_call1_c : Ref sig .tc := ⟨.hbm, 109, rfl⟩
abbrev main_call1_call1_v0 : Ref sig .tc := ⟨.hbm, 110, rfl⟩
abbrev main_call1_call1_v1 : Ref sig .tc := ⟨.hbm, 111, rfl⟩
abbrev main_call1_call1_c_0 : Ref sig .tc := ⟨.hbm, 112, rfl⟩
abbrev main_call1_call1_v2 : Ref sig .tc := ⟨.hbm, 113, rfl⟩
abbrev main_call1_call1_v3 : Ref sig .tc := ⟨.hbm, 114, rfl⟩
abbrev main_call1_call1_v4 : Ref sig .tc := ⟨.hbm, 115, rfl⟩
abbrev main_call1_call1_v5 : Ref sig .tc := ⟨.hbm, 116, rfl⟩
abbrev main_call1_call1_c_1 : Ref sig .tc := ⟨.hbm, 117, rfl⟩
abbrev main_call1_call1_c_2 : Ref sig .tc := ⟨.hbm, 118, rfl⟩
abbrev main_call1_call1_v6 : Ref sig .tc := ⟨.hbm, 119, rfl⟩
abbrev main_call1_call1_v7 : Ref sig .tc := ⟨.hbm, 120, rfl⟩
abbrev main_call1_call1_v8 : Ref sig .tc := ⟨.hbm, 121, rfl⟩
abbrev main_call1_call1_v9 : Ref sig .tc := ⟨.hbm, 122, rfl⟩
abbrev main_call1_call1_v10 : Ref sig .tc := ⟨.hbm, 123, rfl⟩
abbrev main_call1_call1_v11 : Ref sig .tc := ⟨.hbm, 124, rfl⟩
abbrev main_call1_call1_c_3 : Ref sig .tc := ⟨.hbm, 125, rfl⟩
abbrev main_call1_call1_v12 : Ref sig .tc := ⟨.hbm, 126, rfl⟩
abbrev main_call1_call1_v13 : Ref sig .tc := ⟨.hbm, 127, rfl⟩
abbrev main_call1_call1_v14 : Ref sig .tc := ⟨.hbm, 128, rfl⟩
abbrev main_call1_call1_cst : Ref sig .tc := ⟨.hbm, 129, rfl⟩
abbrev main_call1_call1_v15 : Ref sig .tc := ⟨.hbm, 130, rfl⟩
abbrev main_v12_1 : Ref sig .tc := ⟨.hbm, 131, rfl⟩
abbrev main_call1_v16 : Ref sig .tc := ⟨.hbm, 132, rfl⟩
abbrev main_call1_v17 : Ref sig .tc := ⟨.hbm, 133, rfl⟩
abbrev main_call1_cst_2 : Ref sig .tc := ⟨.hbm, 134, rfl⟩
abbrev main_call1_v18 : Ref sig .tc := ⟨.hbm, 135, rfl⟩
abbrev main_call1_cst_3 : Ref sig .tc := ⟨.hbm, 136, rfl⟩
abbrev main_call1_v19 : Ref sig .tc := ⟨.hbm, 137, rfl⟩
abbrev main_call1_cst_4 : Ref sig .tc := ⟨.hbm, 138, rfl⟩
abbrev main_v12_2 : Ref sig .tc := ⟨.hbm, 139, rfl⟩
abbrev main_cst_0 : Ref sig .tc := ⟨.hbm, 140, rfl⟩
abbrev main_v13 : Ref sig .tc := ⟨.hbm, 141, rfl⟩
abbrev main_v14 : Ref sig .tc := ⟨.hbm, 142, rfl⟩
abbrev main_v15 : Ref sig .tc := ⟨.hbm, 143, rfl⟩
abbrev main_v16 : Ref sig .tc := ⟨.hbm, 144, rfl⟩
abbrev main_v17 : Ref sig .tc := ⟨.hbm, 145, rfl⟩
abbrev main_call2_v0 : Ref sig .tc := ⟨.hbm, 146, rfl⟩
abbrev main_call2_cst : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_cst_0 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_v8 : Ref sig .tc := ⟨.hbm, 156, rfl⟩
abbrev main_call2_v9 : Ref sig .tc := ⟨.hbm, 157, rfl⟩
abbrev main_call2_cst_1 : Ref sig .tc := ⟨.hbm, 158, rfl⟩
abbrev main_call2_v10 : Ref sig .tc := ⟨.hbm, 159, rfl⟩
abbrev main_call2_v11 : Ref sig .tc := ⟨.hbm, 160, rfl⟩
abbrev main_call2_v12 : Ref sig .tc := ⟨.hbm, 161, rfl⟩
abbrev main_call2_v13 : Ref sig .tc := ⟨.hbm, 162, rfl⟩
abbrev main_call2_call0_v0 : Ref sig .tc := ⟨.hbm, 163, rfl⟩
abbrev main_call2_call0_cst : Ref sig .tc := ⟨.hbm, 164, rfl⟩
abbrev main_call2_call0_c : Ref sig .tc := ⟨.hbm, 165, rfl⟩
abbrev main_call2_call0_v1_0 : Ref sig .tc := ⟨.hbm, 166, rfl⟩
abbrev main_v18_0 : Ref sig .tc := ⟨.hbm, 167, rfl⟩
abbrev main_call2_call1_c : Ref sig .tc := ⟨.hbm, 168, rfl⟩
abbrev main_call2_call1_v0 : Ref sig .tc := ⟨.hbm, 169, rfl⟩
abbrev main_call2_call1_v1 : Ref sig .tc := ⟨.hbm, 170, rfl⟩
abbrev main_call2_call1_c_0 : Ref sig .tc := ⟨.hbm, 171, rfl⟩
abbrev main_call2_call1_v2 : Ref sig .tc := ⟨.hbm, 172, rfl⟩
abbrev main_call2_call1_v3 : Ref sig .tc := ⟨.hbm, 173, rfl⟩
abbrev main_call2_call1_v4 : Ref sig .tc := ⟨.hbm, 174, rfl⟩
abbrev main_call2_call1_v5 : Ref sig .tc := ⟨.hbm, 175, rfl⟩
abbrev main_call2_call1_c_1 : Ref sig .tc := ⟨.hbm, 176, rfl⟩
abbrev main_call2_call1_c_2 : Ref sig .tc := ⟨.hbm, 177, rfl⟩
abbrev main_call2_call1_v6 : Ref sig .tc := ⟨.hbm, 178, rfl⟩
abbrev main_call2_call1_v7 : Ref sig .tc := ⟨.hbm, 179, rfl⟩
abbrev main_call2_call1_v8 : Ref sig .tc := ⟨.hbm, 180, rfl⟩
abbrev main_call2_call1_v9 : Ref sig .tc := ⟨.hbm, 181, rfl⟩
abbrev main_call2_call1_v10 : Ref sig .tc := ⟨.hbm, 182, rfl⟩
abbrev main_call2_call1_v11 : Ref sig .tc := ⟨.hbm, 183, rfl⟩
abbrev main_call2_call1_c_3 : Ref sig .tc := ⟨.hbm, 184, rfl⟩
abbrev main_call2_call1_v12 : Ref sig .tc := ⟨.hbm, 185, rfl⟩
abbrev main_call2_call1_v13 : Ref sig .tc := ⟨.hbm, 186, rfl⟩
abbrev main_call2_call1_v14 : Ref sig .tc := ⟨.hbm, 187, rfl⟩
abbrev main_call2_call1_cst : Ref sig .tc := ⟨.hbm, 188, rfl⟩
abbrev main_call2_call1_v15 : Ref sig .tc := ⟨.hbm, 189, rfl⟩
abbrev main_v18_1 : Ref sig .tc := ⟨.hbm, 190, rfl⟩
abbrev main_call2_v16 : Ref sig .tc := ⟨.hbm, 191, rfl⟩
abbrev main_call2_v17 : Ref sig .tc := ⟨.hbm, 192, rfl⟩
abbrev main_call2_cst_2 : Ref sig .tc := ⟨.hbm, 193, rfl⟩
abbrev main_call2_v18 : Ref sig .tc := ⟨.hbm, 194, rfl⟩
abbrev main_call2_cst_3 : Ref sig .tc := ⟨.hbm, 195, rfl⟩
abbrev main_call2_v19 : Ref sig .tc := ⟨.hbm, 196, rfl⟩
abbrev main_call2_cst_4 : Ref sig .tc := ⟨.hbm, 197, rfl⟩
abbrev main_v18_2 : Ref sig .tc := ⟨.hbm, 198, rfl⟩
abbrev main_v19 : Ref sig .tc := ⟨.hbm, 199, rfl⟩
abbrev main_v20 : Ref sig .tc := ⟨.hbm, 200, rfl⟩
abbrev main_v21 : Ref sig .tc := ⟨.hbm, 201, rfl⟩
abbrev main_v22 : Ref sig .tc := ⟨.hbm, 202, rfl⟩
abbrev main_v23 : Ref sig .tc := ⟨.hbm, 203, rfl⟩
abbrev main_call3_v0 : Ref sig .tc := ⟨.hbm, 204, rfl⟩
abbrev main_call3_cst : Ref sig .tc := ⟨.hbm, 205, rfl⟩
abbrev main_call3_v1 : Ref sig .tc := ⟨.hbm, 206, rfl⟩
abbrev main_call3_v2 : Ref sig .tc := ⟨.hbm, 207, rfl⟩
abbrev main_call3_v3 : Ref sig .tc := ⟨.hbm, 208, rfl⟩
abbrev main_call3_v4 : Ref sig .tc := ⟨.hbm, 209, rfl⟩
abbrev main_call3_cst_0 : Ref sig .tc := ⟨.hbm, 210, rfl⟩
abbrev main_call3_v5 : Ref sig .tc := ⟨.hbm, 211, rfl⟩
abbrev main_call3_v6 : Ref sig .tc := ⟨.hbm, 212, rfl⟩
abbrev main_call3_v7 : Ref sig .tc := ⟨.hbm, 213, rfl⟩
abbrev main_call3_v8 : Ref sig .tc := ⟨.hbm, 214, rfl⟩
abbrev main_call3_v9 : Ref sig .tc := ⟨.hbm, 215, rfl⟩
abbrev main_call3_cst_1 : Ref sig .tc := ⟨.hbm, 216, rfl⟩
abbrev main_call3_v10 : Ref sig .tc := ⟨.hbm, 217, rfl⟩
abbrev main_call3_v11 : Ref sig .tc := ⟨.hbm, 218, rfl⟩
abbrev main_call3_v12 : Ref sig .tc := ⟨.hbm, 219, rfl⟩
abbrev main_call3_v13 : Ref sig .tc := ⟨.hbm, 220, rfl⟩
abbrev main_call3_call0_v0 : Ref sig .tc := ⟨.hbm, 221, rfl⟩
abbrev main_call3_call0_cst : Ref sig .tc := ⟨.hbm, 222, rfl⟩
abbrev main_call3_call0_c : Ref sig .tc := ⟨.hbm, 223, rfl⟩
abbrev main_call3_call0_v1_0 : Ref sig .tc := ⟨.hbm, 224, rfl⟩
abbrev main_v24_0 : Ref sig .tc := ⟨.hbm, 225, rfl⟩
abbrev main_call3_call1_c : Ref sig .tc := ⟨.hbm, 226, rfl⟩
abbrev main_call3_call1_v0 : Ref sig .tc := ⟨.hbm, 227, rfl⟩
abbrev main_call3_call1_v1 : Ref sig .tc := ⟨.hbm, 228, rfl⟩
abbrev main_call3_call1_c_0 : Ref sig .tc := ⟨.hbm, 229, rfl⟩
abbrev main_call3_call1_v2 : Ref sig .tc := ⟨.hbm, 230, rfl⟩
abbrev main_call3_call1_v3 : Ref sig .tc := ⟨.hbm, 231, rfl⟩
abbrev main_call3_call1_v4 : Ref sig .tc := ⟨.hbm, 232, rfl⟩
abbrev main_call3_call1_v5 : Ref sig .tc := ⟨.hbm, 233, rfl⟩
abbrev main_call3_call1_c_1 : Ref sig .tc := ⟨.hbm, 234, rfl⟩
abbrev main_call3_call1_c_2 : Ref sig .tc := ⟨.hbm, 235, rfl⟩
abbrev main_call3_call1_v6 : Ref sig .tc := ⟨.hbm, 236, rfl⟩
abbrev main_call3_call1_v7 : Ref sig .tc := ⟨.hbm, 237, rfl⟩
abbrev main_call3_call1_v8 : Ref sig .tc := ⟨.hbm, 238, rfl⟩
abbrev main_call3_call1_v9 : Ref sig .tc := ⟨.hbm, 239, rfl⟩
abbrev main_call3_call1_v10 : Ref sig .tc := ⟨.hbm, 240, rfl⟩
abbrev main_call3_call1_v11 : Ref sig .tc := ⟨.hbm, 241, rfl⟩
abbrev main_call3_call1_c_3 : Ref sig .tc := ⟨.hbm, 242, rfl⟩
abbrev main_call3_call1_v12 : Ref sig .tc := ⟨.hbm, 243, rfl⟩
abbrev main_call3_call1_v13 : Ref sig .tc := ⟨.hbm, 244, rfl⟩
abbrev main_call3_call1_v14 : Ref sig .tc := ⟨.hbm, 245, rfl⟩
abbrev main_call3_call1_cst : Ref sig .tc := ⟨.hbm, 246, rfl⟩
abbrev main_call3_call1_v15 : Ref sig .tc := ⟨.hbm, 247, rfl⟩
abbrev main_v24_1 : Ref sig .tc := ⟨.hbm, 248, rfl⟩
abbrev main_call3_v16 : Ref sig .tc := ⟨.hbm, 249, rfl⟩
abbrev main_call3_v17 : Ref sig .tc := ⟨.hbm, 250, rfl⟩
abbrev main_call3_cst_2 : Ref sig .tc := ⟨.hbm, 251, rfl⟩
abbrev main_call3_v18 : Ref sig .tc := ⟨.hbm, 252, rfl⟩
abbrev main_call3_cst_3 : Ref sig .tc := ⟨.hbm, 253, rfl⟩
abbrev main_call3_v19 : Ref sig .tc := ⟨.hbm, 254, rfl⟩
abbrev main_call3_cst_4 : Ref sig .tc := ⟨.hbm, 255, rfl⟩
abbrev main_v24_2 : Ref sig .tc := ⟨.hbm, 256, rfl⟩
abbrev main_v25 : Ref sig .tc := ⟨.hbm, 257, rfl⟩
abbrev main_v26 : Ref sig .tc := ⟨.hbm, 258, rfl⟩
abbrev main_v27 : Ref sig .tc := ⟨.hbm, 259, rfl⟩
abbrev main_v28 : Ref sig .tc := ⟨.hbm, 260, rfl⟩
abbrev main_v29 : Ref sig .tc := ⟨.hbm, 261, rfl⟩
abbrev main_call4_v0 : Ref sig .tc := ⟨.hbm, 262, rfl⟩
abbrev main_call4_cst : Ref sig .tc := ⟨.hbm, 263, rfl⟩
abbrev main_call4_v1 : Ref sig .tc := ⟨.hbm, 264, rfl⟩
abbrev main_call4_v2 : Ref sig .tc := ⟨.hbm, 265, rfl⟩
abbrev main_call4_v3 : Ref sig .tc := ⟨.hbm, 266, rfl⟩
abbrev main_call4_v4 : Ref sig .tc := ⟨.hbm, 267, rfl⟩
abbrev main_call4_cst_0 : Ref sig .tc := ⟨.hbm, 268, rfl⟩
abbrev main_call4_v5 : Ref sig .tc := ⟨.hbm, 269, rfl⟩
abbrev main_call4_v6 : Ref sig .tc := ⟨.hbm, 270, rfl⟩
abbrev main_call4_v7 : Ref sig .tc := ⟨.hbm, 271, rfl⟩
abbrev main_call4_v8 : Ref sig .tc := ⟨.hbm, 272, rfl⟩
abbrev main_call4_v9 : Ref sig .tc := ⟨.hbm, 273, rfl⟩
abbrev main_call4_cst_1 : Ref sig .tc := ⟨.hbm, 274, rfl⟩
abbrev main_call4_v10 : Ref sig .tc := ⟨.hbm, 275, rfl⟩
abbrev main_call4_v11 : Ref sig .tc := ⟨.hbm, 276, rfl⟩
abbrev main_call4_v12 : Ref sig .tc := ⟨.hbm, 277, rfl⟩
abbrev main_call4_v13 : Ref sig .tc := ⟨.hbm, 278, rfl⟩
abbrev main_call4_call0_v0 : Ref sig .tc := ⟨.hbm, 279, rfl⟩
abbrev main_call4_call0_cst : Ref sig .tc := ⟨.hbm, 280, rfl⟩
abbrev main_call4_call0_c : Ref sig .tc := ⟨.hbm, 281, rfl⟩
abbrev main_call4_call0_v1_0 : Ref sig .tc := ⟨.hbm, 282, rfl⟩
abbrev main_v30_0 : Ref sig .tc := ⟨.hbm, 283, rfl⟩
abbrev main_call4_call1_c : Ref sig .tc := ⟨.hbm, 284, rfl⟩
abbrev main_call4_call1_v0 : Ref sig .tc := ⟨.hbm, 285, rfl⟩
abbrev main_call4_call1_v1 : Ref sig .tc := ⟨.hbm, 286, rfl⟩
abbrev main_call4_call1_c_0 : Ref sig .tc := ⟨.hbm, 287, rfl⟩
abbrev main_call4_call1_v2 : Ref sig .tc := ⟨.hbm, 288, rfl⟩
abbrev main_call4_call1_v3 : Ref sig .tc := ⟨.hbm, 289, rfl⟩
abbrev main_call4_call1_v4 : Ref sig .tc := ⟨.hbm, 290, rfl⟩
abbrev main_call4_call1_v5 : Ref sig .tc := ⟨.hbm, 291, rfl⟩
abbrev main_call4_call1_c_1 : Ref sig .tc := ⟨.hbm, 292, rfl⟩
abbrev main_call4_call1_c_2 : Ref sig .tc := ⟨.hbm, 293, rfl⟩
abbrev main_call4_call1_v6 : Ref sig .tc := ⟨.hbm, 294, rfl⟩
abbrev main_call4_call1_v7 : Ref sig .tc := ⟨.hbm, 295, rfl⟩
abbrev main_call4_call1_v8 : Ref sig .tc := ⟨.hbm, 296, rfl⟩
abbrev main_call4_call1_v9 : Ref sig .tc := ⟨.hbm, 297, rfl⟩
abbrev main_call4_call1_v10 : Ref sig .tc := ⟨.hbm, 298, rfl⟩
abbrev main_call4_call1_v11 : Ref sig .tc := ⟨.hbm, 299, rfl⟩
abbrev main_call4_call1_c_3 : Ref sig .tc := ⟨.hbm, 300, rfl⟩
abbrev main_call4_call1_v12 : Ref sig .tc := ⟨.hbm, 301, rfl⟩
abbrev main_call4_call1_v13 : Ref sig .tc := ⟨.hbm, 302, rfl⟩
abbrev main_call4_call1_v14 : Ref sig .tc := ⟨.hbm, 303, rfl⟩
abbrev main_call4_call1_cst : Ref sig .tc := ⟨.hbm, 304, rfl⟩
abbrev main_call4_call1_v15 : Ref sig .tc := ⟨.hbm, 305, rfl⟩
abbrev main_v30_1 : Ref sig .tc := ⟨.hbm, 306, rfl⟩
abbrev main_call4_v16 : Ref sig .tc := ⟨.hbm, 307, rfl⟩
abbrev main_call4_v17 : Ref sig .tc := ⟨.hbm, 308, rfl⟩
abbrev main_call4_cst_2 : Ref sig .tc := ⟨.hbm, 309, rfl⟩
abbrev main_call4_v18 : Ref sig .tc := ⟨.hbm, 310, rfl⟩
abbrev main_call4_cst_3 : Ref sig .tc := ⟨.hbm, 311, rfl⟩
abbrev main_call4_v19 : Ref sig .tc := ⟨.hbm, 312, rfl⟩
abbrev main_call4_cst_4 : Ref sig .tc := ⟨.hbm, 313, rfl⟩
abbrev main_v30_2 : Ref sig .tc := ⟨.hbm, 314, rfl⟩
abbrev main_v31 : Ref sig .tc := ⟨.hbm, 315, rfl⟩
abbrev main_v32 : Ref sig .tc := ⟨.hbm, 316, rfl⟩
abbrev main_v33 : Ref sig .tc := ⟨.hbm, 317, rfl⟩
abbrev main_v34 : Ref sig .tc := ⟨.hbm, 318, rfl⟩
abbrev main_v35 : Ref sig .tc := ⟨.hbm, 319, rfl⟩
abbrev main_v36 : Ref sig .tc := ⟨.hbm, 320, rfl⟩
abbrev main_v37 : Ref sig .tc := ⟨.hbm, 321, rfl⟩
abbrev main_v38 : Ref sig .tc := ⟨.hbm, 322, rfl⟩
abbrev main_v39 : Ref sig .tc := ⟨.hbm, 323, rfl⟩
abbrev main_v40 : Ref sig .tc := ⟨.hbm, 324, rfl⟩
abbrev main_v41 : Ref sig .tc := ⟨.hbm, 325, rfl⟩
abbrev main_v42 : Ref sig .tc := ⟨.hbm, 326, rfl⟩
abbrev main_v43 : Ref sig .tc := ⟨.hbm, 327, rfl⟩
abbrev main_v44 : Ref sig .tc := ⟨.hbm, 328, rfl⟩
abbrev main_call5_cst : Ref sig .tc := ⟨.hbm, 329, rfl⟩
abbrev main_call5_v0 : Ref sig .tc := ⟨.hbm, 330, rfl⟩
abbrev main_call5_v1 : Ref sig .tc := ⟨.hbm, 331, rfl⟩
abbrev main_call5_cst_0 : Ref sig .tc := ⟨.hbm, 332, rfl⟩
abbrev main_call5_v2 : Ref sig .tc := ⟨.hbm, 333, rfl⟩
abbrev main_call5_v3 : Ref sig .tc := ⟨.hbm, 334, rfl⟩
abbrev main_call5_c : Ref sig .tc := ⟨.hbm, 335, rfl⟩
abbrev main_call5_call0_cst : Ref sig .tc := ⟨.hbm, 336, rfl⟩
abbrev main_call5_call0_v0 : Ref sig .tc := ⟨.hbm, 337, rfl⟩
abbrev main_call5_call0_v1 : Ref sig .tc := ⟨.hbm, 338, rfl⟩
abbrev main_call5_call0_cst_0 : Ref sig .tc := ⟨.hbm, 339, rfl⟩
abbrev main_call5_call0_v2 : Ref sig .tc := ⟨.hbm, 340, rfl⟩
abbrev main_call5_call0_v3 : Ref sig .tc := ⟨.hbm, 341, rfl⟩
abbrev main_call5_call0_v4 : Ref sig .tc := ⟨.hbm, 342, rfl⟩
abbrev main_call5_call0_v5 : Ref sig .tc := ⟨.hbm, 343, rfl⟩
abbrev main_call5_call0_v6 : Ref sig .tc := ⟨.hbm, 344, rfl⟩
abbrev main_call5_call0_v7 : Ref sig .tc := ⟨.hbm, 345, rfl⟩
abbrev main_call5_call0_cst_1 : Ref sig .tc := ⟨.hbm, 346, rfl⟩
abbrev main_call5_call0_v8 : Ref sig .tc := ⟨.hbm, 347, rfl⟩
abbrev main_call5_call0_cst_2 : Ref sig .tc := ⟨.hbm, 348, rfl⟩
abbrev main_call5_call0_v9 : Ref sig .tc := ⟨.hbm, 349, rfl⟩
abbrev main_call5_call0_v10 : Ref sig .tc := ⟨.hbm, 350, rfl⟩
abbrev main_call5_call0_v11 : Ref sig .tc := ⟨.hbm, 351, rfl⟩
abbrev main_call5_call0_v12 : Ref sig .tc := ⟨.hbm, 352, rfl⟩
abbrev main_call5_call0_cst_3 : Ref sig .tc := ⟨.hbm, 353, rfl⟩
abbrev main_call5_call0_v13 : Ref sig .tc := ⟨.hbm, 354, rfl⟩
abbrev main_call5_call0_cst_4 : Ref sig .tc := ⟨.hbm, 355, rfl⟩
abbrev main_call5_call0_call0_v0 : Ref sig .tc := ⟨.hbm, 356, rfl⟩
abbrev main_call5_call0_call0_v1 : Ref sig .tc := ⟨.hbm, 357, rfl⟩
abbrev main_call5_v4 : Ref sig .tc := ⟨.hbm, 358, rfl⟩
abbrev main_call5_v5 : Ref sig .tc := ⟨.hbm, 359, rfl⟩
abbrev main_call5_v6 : Ref sig .tc := ⟨.hbm, 360, rfl⟩
abbrev main_call5_cst_1 : Ref sig .tc := ⟨.hbm, 361, rfl⟩
abbrev main_call5_v7 : Ref sig .tc := ⟨.hbm, 362, rfl⟩
abbrev main_call5_v8 : Ref sig .tc := ⟨.hbm, 363, rfl⟩
abbrev main_call5_v9 : Ref sig .tc := ⟨.hbm, 364, rfl⟩
abbrev main_call5_v10 : Ref sig .tc := ⟨.hbm, 365, rfl⟩
abbrev main_call5_v11 : Ref sig .tc := ⟨.hbm, 366, rfl⟩
abbrev main_call5_v12 : Ref sig .tc := ⟨.hbm, 367, rfl⟩
abbrev main_call5_v13 : Ref sig .tc := ⟨.hbm, 368, rfl⟩
abbrev main_call5_v14 : Ref sig .tc := ⟨.hbm, 369, rfl⟩
abbrev main_call5_v15 : Ref sig .tc := ⟨.hbm, 370, rfl⟩
abbrev main_call5_v16 : Ref sig .tc := ⟨.hbm, 371, rfl⟩
abbrev main_call5_v17 : Ref sig .tc := ⟨.hbm, 372, rfl⟩
abbrev main_call5_v18 : Ref sig .tc := ⟨.hbm, 373, rfl⟩
abbrev main_call5_v19 : Ref sig .tc := ⟨.hbm, 374, rfl⟩
abbrev main_call5_cst_2 : Ref sig .tc := ⟨.hbm, 375, rfl⟩
abbrev main_call5_v20 : Ref sig .tc := ⟨.hbm, 376, rfl⟩
abbrev main_call5_v21 : Ref sig .tc := ⟨.hbm, 377, rfl⟩
abbrev main_call5_v22 : Ref sig .tc := ⟨.hbm, 378, rfl⟩
abbrev main_call5_cst_3 : Ref sig .tc := ⟨.hbm, 379, rfl⟩
abbrev main_call5_v23 : Ref sig .tc := ⟨.hbm, 380, rfl⟩
abbrev main_call5_v24 : Ref sig .tc := ⟨.hbm, 381, rfl⟩
abbrev main_call5_v25 : Ref sig .tc := ⟨.hbm, 382, rfl⟩
abbrev main_call5_cst_4 : Ref sig .tc := ⟨.hbm, 383, rfl⟩
abbrev main_call5_v26 : Ref sig .tc := ⟨.hbm, 384, rfl⟩
abbrev main_call5_v27 : Ref sig .tc := ⟨.hbm, 385, rfl⟩
abbrev main_call5_cst_5 : Ref sig .tc := ⟨.hbm, 386, rfl⟩
abbrev main_call5_v28 : Ref sig .tc := ⟨.hbm, 387, rfl⟩
abbrev main_call5_v29 : Ref sig .tc := ⟨.hbm, 388, rfl⟩
abbrev main_v45 : Ref sig .tc := ⟨.hbm, 389, rfl⟩
abbrev main_v46 : Ref sig .tc := ⟨.hbm, 390, rfl⟩
abbrev main_v47 : Ref sig .tc := ⟨.hbm, 391, rfl⟩
abbrev main_v48 : Ref sig .tc := ⟨.hbm, 392, rfl⟩
abbrev main_v49 : Ref sig .tc := ⟨.hbm, 393, rfl⟩
abbrev main_v50 : Ref sig .tc := ⟨.hbm, 394, rfl⟩
abbrev main_v51 : Ref sig .tc := ⟨.hbm, 395, rfl⟩
abbrev main_v52 : Ref sig .tc := ⟨.hbm, 396, rfl⟩
abbrev main_cst_1 : Ref sig .tc := ⟨.hbm, 397, rfl⟩
abbrev main_v53 : Ref sig .tc := ⟨.hbm, 398, rfl⟩
abbrev main_v54 : Ref sig .tc := ⟨.hbm, 399, rfl⟩
abbrev main_c : Ref sig .tc := ⟨.hbm, 400, rfl⟩
abbrev main_v55 : Ref sig .tc := ⟨.hbm, 401, rfl⟩
abbrev main_v56 : Ref sig .tc := ⟨.hbm, 402, rfl⟩
abbrev main_c_2 : Ref sig .tc := ⟨.hbm, 403, rfl⟩
abbrev main_v57 : Ref sig .tc := ⟨.hbm, 404, rfl⟩
abbrev main_v58 : Ref sig .tc := ⟨.hbm, 405, rfl⟩
abbrev main_v59 : Ref sig .tc := ⟨.hbm, 406, rfl⟩
abbrev main_c_3 : Ref sig .tc := ⟨.hbm, 407, rfl⟩
abbrev main_v60 : Ref sig .tc := ⟨.hbm, 408, rfl⟩
abbrev main_v61 : Ref sig .tc := ⟨.hbm, 409, rfl⟩
abbrev main_c_4 : Ref sig .tc := ⟨.hbm, 410, rfl⟩
abbrev main_v62 : Ref sig .tc := ⟨.hbm, 411, rfl⟩
abbrev main_v63 : Ref sig .tc := ⟨.hbm, 412, rfl⟩
abbrev main_v64 : Ref sig .tc := ⟨.hbm, 413, rfl⟩
abbrev main_v65 : Ref sig .tc := ⟨.hbm, 414, rfl⟩
abbrev main_v66 : Ref sig .tc := ⟨.hbm, 415, rfl⟩
abbrev main_v67 : Ref sig .tc := ⟨.hbm, 416, rfl⟩
abbrev main_cst_5 : Ref sig .tc := ⟨.hbm, 417, rfl⟩
abbrev main_v68 : Ref sig .tc := ⟨.hbm, 418, rfl⟩
abbrev main_v69 : Ref sig .tc := ⟨.hbm, 419, rfl⟩
abbrev main_cst_6 : Ref sig .tc := ⟨.hbm, 420, rfl⟩
abbrev main_v70 : Ref sig .tc := ⟨.hbm, 421, rfl⟩
abbrev main_cst_7 : Ref sig .tc := ⟨.hbm, 422, rfl⟩
abbrev main_v71 : Ref sig .tc := ⟨.hbm, 423, rfl⟩
abbrev main_v72 : Ref sig .tc := ⟨.hbm, 424, rfl⟩
abbrev main_cst_8 : Ref sig .tc := ⟨.hbm, 425, rfl⟩
abbrev main_v73 : Ref sig .tc := ⟨.hbm, 426, rfl⟩
abbrev main_v74 : Ref sig .tc := ⟨.hbm, 427, rfl⟩
abbrev main_v75 : Ref sig .tc := ⟨.hbm, 428, rfl⟩
abbrev main_v76 : Ref sig .tc := ⟨.hbm, 429, rfl⟩
abbrev main_cst_9 : Ref sig .tc := ⟨.hbm, 430, rfl⟩
abbrev main_v77 : Ref sig .tc := ⟨.hbm, 431, rfl⟩
abbrev main_v78 : Ref sig .tc := ⟨.hbm, 432, rfl⟩
abbrev main_v79 : Ref sig .tc := ⟨.hbm, 433, rfl⟩

abbrev nD : Nat := 1
abbrev τ : Topo := Topo.v7x

variable {F : FTy → Type} [FloatOps F]
-- ==== Proof.Settle.lean ====
/-
  A straight line of host operations in which every buffer is written once, and only read afterwards, ends in
  contents that every operation of the line leaves alone. So each buffer can be read at the END of the run as its
  operation of the other buffers at the end of the run, in any order, without unfolding the line.
-/
module

public import Idealize.ShloMosaic.Lib.StableHlo.RunHlo

@[expose] public section

noncomputable section

namespace Cert.Settle

open Idealize.ShloMosaic Idealize.ShloMosaic.StableHlo Idealize.SL.Sem

variable {nD : Nat} {τ : Topo} {sig : RefSig} {Val : EltTy → Type} {Λ : Labels}

/-! ## Contents that the operations leave alone -/

/-- What an operation reads and writes: it writes `w` only, and what it puts there depends on `rs` only. -/
structure Touches (op : HloOp τ sig Val) (w : Ref sig .tc) (rs : List (Ref sig .tc)) : Prop where
  writes : op.writes = {Proc.devRef .tc w}
  reads : ∀ F G : Valuation τ sig Val, (∀ r ∈ rs, F (Proc.devRef .tc r) = G (Proc.devRef .tc r)) →
    op.result F (Proc.devRef .tc w) = op.result G (Proc.devRef .tc w)

/-- The operations of a line with what each touches. -/
inductive Line : List (HloOp τ sig Val) → List (ℕ × List ℕ) → Prop
  | nil : Line [] []
  | cons {op : HloOp τ sig Val} {ops : List (HloOp τ sig Val)} {w : Ref sig .tc} {rs : List (Ref sig .tc)}
      {ls : List (ℕ × List ℕ)} : Touches op w rs → Line ops ls → Line (op :: ops) ((w.idx.val, rs.map fun r => r.idx.val) :: ls)

/-- The buffers are written in increasing order from `lo` on, each after all that its operation reads. -/
def ordered : ℕ → List (ℕ × List ℕ) → Bool
  | _, [] => true
  | lo, (w, rs) :: ls => decide (lo ≤ w) && rs.all (fun r => decide (r < w)) && ordered (w + 1) ls

/-- What the line writes from `lo` on leaves the buffers below `lo` alone. -/
theorem after_below {ops : List (HloOp τ sig Val)} {ls : List (ℕ × List ℕ)} (h : Line ops ls) :
    ∀ (lo : ℕ) (V : Valuation τ sig Val), ordered lo ls = true → ∀ r : Ref sig .tc, r.idx.val < lo →
      after ops V (Proc.devRef .tc r) = V (Proc.devRef .tc r) := by
  induction h with
  | nil => intros; rfl
  | @cons op ops w rs ls ht _ ih =>
    intro lo V ho r hr
    simp only [ordered, Bool.and_eq_true, decide_eq_true_eq] at ho
    rw [after_cons, ih _ _ ho.2 r (by omega)]
    refine op.result_of_not_mem V ?_
    rw [ht.writes, Finset.mem_singleton]
    refine devRef_ne_of_ne ?_
    rintro rfl
    omega

/-- Every operation of an ordered line leaves the contents at the end of the line alone. -/
theorem result_after {ops : List (HloOp τ sig Val)} {ls : List (ℕ × List ℕ)} (h : Line ops ls) :
    ∀ (lo : ℕ) (V : Valuation τ sig Val), ordered lo ls = true → ∀ op ∈ ops, op.result (after ops V) = after ops V := by
  induction h with
  | nil => intro _ _ _ op hop; cases hop
  | @cons op ops w rs ls ht hl ih =>
    intro lo V ho
    have ho' := ho
    simp only [ordered, Bool.and_eq_true, decide_eq_true_eq, List.all_eq_true, List.mem_map] at ho
    intro o hmem
    rcases List.mem_cons.mp hmem with rfl | hmem
    · rw [after_cons]
      funext b
      by_cases hb : b ∈ o.writes
      · have hb' := hb
        rw [ht.writes, Finset.mem_singleton] at hb'
        subst hb'
        rw [after_below hl _ _ ho.2 w (by omega)]
        refine ht.reads _ _ fun r hr => ?_
        have hlt : r.idx.val < w.idx.val := ho.1.2 _ ⟨r, hr, rfl⟩
        rw [after_below hl _ _ ho.2 r (by omega)]
        refine o.result_of_not_mem V ?_
        rw [ht.writes, Finset.mem_singleton]
        refine devRef_ne_of_ne ?_
        rintro rfl
        omega
      · exact o.result_of_not_mem _ hb
    · exact ih _ _ ho.2 o hmem

theorem touches_nullary (y : Ref sig .tc) (v : y.ty.Contents Val) (hy) : Touches (nullary (τ := τ) y v hy) y [] :=
  ⟨rfl, fun F G _ => by rw [nullary_result', nullary_result']⟩
theorem touches_unary (x y : Ref sig .tc) (f : x.ty.Contents Val → y.ty.Contents Val) (hx hy) :
    Touches (unary (τ := τ) x y f hx hy) y [x] :=
  ⟨rfl, fun F G h => by rw [unary_result', unary_result', h x (by simp)]⟩
theorem touches_reshape (x y : Ref sig .tc) (he hn hx hy) :
    Touches (reshape (τ := τ) (Val := Val) x y he hn hx hy) y [x] :=
  ⟨rfl, fun F G h => by rw [reshape_result', reshape_result', h x (by simp)]⟩
theorem touches_binary (a b y : Ref sig .tc) (f : a.ty.Contents Val → b.ty.Contents Val → y.ty.Contents Val) (ha hb hy) :
    Touches (binary (τ := τ) a b y f ha hb hy) y [a, b] :=
  ⟨rfl, fun F G h => by rw [binary_result', binary_result', h a (by simp), h b (by simp)]⟩
theorem touches_ternary (c a b y : Ref sig .tc)
    (f : c.ty.Contents Val → a.ty.Contents Val → b.ty.Contents Val → y.ty.Contents Val) (hc ha hb hy) :
    Touches (ternary (τ := τ) c a b y f hc ha hb hy) y [c, a, b] :=
  ⟨rfl, fun F G h => by rw [ternary_result', ternary_result', h a (by simp), h b (by simp), h c (by simp)]⟩
theorem touches_quaternary (a b c e y : Ref sig .tc)
    (f : a.ty.Contents Val → b.ty.Contents Val → c.ty.Contents Val → e.ty.Contents Val → y.ty.Contents Val) (ha hb hc he hy) :
    Touches (quaternary (τ := τ) a b c e y f ha hb hc he hy) y [a, b, c, e] :=
  ⟨rfl, fun F G h => by
    rw [quaternary_result', quaternary_result', h a (by simp), h b (by simp), h c (by simp), h e (by simp)]⟩
theorem touches_nary {n : Nat} (xs : Fin n → Ref sig .tc) (y : Ref sig .tc)
    (f : ((k : Fin n) → (xs k).ty.Contents Val) → y.ty.Contents Val) (hxs hy) :
    Touches (nary (τ := τ) xs y f hxs hy) y (List.ofFn xs) :=
  ⟨rfl, fun F G h => by
    rw [nary_result', nary_result']
    exact congrArg f (funext fun k => h (xs k) (by simp))⟩

variable {T Tx Ta Tb Tc Te : BufTy}

theorem touches_tnullary (y : TRef sig T) (v : T.Contents Val) : Touches (TRef.nullary (τ := τ) y v) y.ref [] :=
  touches_nullary _ _ _
theorem touches_tunary (x : TRef sig Tx) (y : TRef sig T) (f : Tx.Contents Val → T.Contents Val) :
    Touches (TRef.unary (τ := τ) x y f) y.ref [x.ref] := touches_unary _ _ _ _ _
theorem touches_tbinary (a : TRef sig Ta) (b : TRef sig Tb) (y : TRef sig T)
    (f : Ta.Contents Val → Tb.Contents Val → T.Contents Val) :
    Touches (TRef.binary (τ := τ) a b y f) y.ref [a.ref, b.ref] := touches_binary _ _ _ _ _ _ _
theorem touches_tternary (c : TRef sig Tc) (a : TRef sig Ta) (b : TRef sig Tb) (y : TRef sig T)
    (f : Tc.Contents Val → Ta.Contents Val → Tb.Contents Val → T.Contents Val) :
    Touches (TRef.ternary (τ := τ) c a b y f) y.ref [c.ref, a.ref, b.ref] := touches_ternary _ _ _ _ _ _ _ _ _
theorem touches_tquaternary (a : TRef sig Ta) (b : TRef sig Tb) (c : TRef sig Tc) (e : TRef sig Te) (y : TRef sig T)
    (f : Ta.Contents Val → Tb.Contents Val → Tc.Contents Val → Te.Contents Val → T.Contents Val) :
    Touches (TRef.quaternary (τ := τ) a b c e y f) y.ref [a.ref, b.ref, c.ref, e.ref] :=
  touches_quaternary _ _ _ _ _ _ _ _ _ _ _

/-! ## Programs whose operations leave the contents alone -/

/-- `p` is a straight line of operations that all leave `W` alone. -/
def Settled (W : Valuation τ sig Val) (p : Prog (TpuEff nD τ sig Val Λ .tc) PUnit) : Prop :=
  ∃ ops, IsSeq p ops ∧ ∀ op ∈ ops, op.result W = W

/-- What a typed reference's buffer holds. -/
def rd (W : Valuation τ sig Val) {T : BufTy} (x : TRef sig T) : T.Contents Val := x.ofBuf (W (Proc.devRef .tc x.ref))

theorem rd_of (W : Valuation τ sig Val) (r : Ref sig .tc) (h₁ : r.ty = r.ty) (h₂ h₃) :
    rd W (⟨r, h₁, h₂, h₃⟩ : TRef sig r.ty) = W (Proc.devRef .tc r) := rfl

variable {W : Valuation τ sig Val}

/-- A line and what follows it are settled one by one. -/
theorem Settled.split {p : Prog (TpuEff nD τ sig Val Λ .tc) PUnit} {k : PUnit → Prog (TpuEff nD τ sig Val Λ .tc) PUnit}
    (hp : ∃ ops : List (HloOp τ sig Val), IsSeq p ops) (h : Settled W (p >>= k)) : Settled W p ∧ Settled W (k ⟨⟩) := by
  obtain ⟨ops₁, h₁⟩ := hp
  obtain ⟨ops, hs, hW⟩ := h
  suffices ∀ (ops₁ : List (HloOp τ sig Val)) (ops : List (HloOp τ sig Val)), ((seq ops₁ : Prog (TpuEff nD τ sig Val Λ .tc) PUnit) >>= k) = seq ops →
      ∃ ops₂, ops = ops₁ ++ ops₂ ∧ k ⟨⟩ = seq ops₂ by
    unfold IsSeq at h₁ hs
    subst h₁
    obtain ⟨ops₂, rfl, hk⟩ := this _ _ hs
    exact ⟨⟨ops₁, rfl, fun op ho => hW op (List.mem_append_left _ ho)⟩, ⟨ops₂, hk, fun op ho => hW op (List.mem_append_right _ ho)⟩⟩
  intro ops₁
  induction ops₁ with
  | nil => intro ops h; exact ⟨ops, rfl, h⟩
  | cons op ops₁ ih =>
    intro ops h
    cases ops with
    | nil => exact absurd h (by simp [seq])
    | cons op' ops =>
      simp only [seq, bind_assoc, Prog.bind_op, Prog.bind_ret, Prog.op.injEq, heq_eq_eq, true_and, TpuEff.hloBegin.injEq] at h
      obtain ⟨he, h⟩ := h
      cases he
      have h := congrFun h ⟨⟩
      simp only [Prog.op.injEq, heq_eq_eq, true_and] at h
      have h' := congrFun h (fun b => op.fn (fun b' => W b'.1) b)
      obtain ⟨ops₂, rfl, hk⟩ := ih _ h'
      exact ⟨ops₂, rfl, hk⟩

theorem isSeq_one (op : HloOp τ sig Val) : IsSeq (nD := nD) (Λ := Λ) (hlo rfl op fun _ => .ret (⟨⟩ : PUnit)) [op] := rfl

theorem Settled.one {op : HloOp τ sig Val} (h : Settled (nD := nD) (Λ := Λ) W (hlo rfl op fun _ => .ret (⟨⟩ : PUnit))) :
    op.result W = W := by
  obtain ⟨ops, hs, hW⟩ := h
  have : ops = [op] := by
    unfold IsSeq at hs
    cases ops with
    | nil => exact absurd hs (by simp [seq])
    | cons op' ops =>
      simp only [seq, Prog.bind_op, Prog.bind_ret, Prog.op.injEq, heq_eq_eq, true_and, TpuEff.hloBegin.injEq] at hs
      obtain ⟨he, h⟩ := hs
      cases he
      have h := congrFun h ⟨⟩
      simp only [Prog.op.injEq, heq_eq_eq, true_and] at h
      have h' := congrFun h (fun b => op.fn (fun b' => W b'.1) b)
      cases ops with
      | nil => rfl
      | cons _ _ => exact absurd h' (by simp [seq])
  subst this
  exact hW op (by simp)

theorem Settled.cons {op : HloOp τ sig Val} {k : PUnit → Prog (TpuEff nD τ sig Val Λ .tc) PUnit}
    (h : Settled W ((hlo rfl op fun _ => .ret (⟨⟩ : PUnit)) >>= k)) : op.result W = W ∧ Settled W (k ⟨⟩) :=
  let h' := h.split ⟨_, isSeq_one op⟩
  ⟨h'.1.one, h'.2⟩

/-! ## What a settled operation says of the contents -/

theorem rd_nullary {y : TRef sig T} {v : T.Contents Val} (h : (TRef.nullary (τ := τ) y v).result W = W) : rd W y = v := by
  have := congrFun h (Proc.devRef .tc y.ref)
  rw [nullary_result'] at this
  unfold rd; rw [← this]; exact TRef.ofBuf_toBuf _ _
theorem rd_unary {x : TRef sig Tx} {y : TRef sig T} {f : Tx.Contents Val → T.Contents Val}
    (h : (TRef.unary (τ := τ) x y f).result W = W) : rd W y = f (rd W x) := by
  have := congrFun h (Proc.devRef .tc y.ref)
  rw [unary_result'] at this
  conv_lhs => unfold rd
  rw [← this]; exact TRef.ofBuf_toBuf _ _
theorem rd_binary {a : TRef sig Ta} {b : TRef sig Tb} {y : TRef sig T} {f : Ta.Contents Val → Tb.Contents Val → T.Contents Val}
    (h : (TRef.binary (τ := τ) a b y f).result W = W) : rd W y = f (rd W a) (rd W b) := by
  have := congrFun h (Proc.devRef .tc y.ref)
  rw [binary_result'] at this
  conv_lhs => unfold rd
  rw [← this]; exact TRef.ofBuf_toBuf _ _
theorem rd_ternary {c : TRef sig Tc} {a : TRef sig Ta} {b : TRef sig Tb} {y : TRef sig T}
    {f : Tc.Contents Val → Ta.Contents Val → Tb.Contents Val → T.Contents Val}
    (h : (TRef.ternary (τ := τ) c a b y f).result W = W) : rd W y = f (rd W c) (rd W a) (rd W b) := by
  have := congrFun h (Proc.devRef .tc y.ref)
  rw [ternary_result'] at this
  conv_lhs => unfold rd
  rw [← this]; exact TRef.ofBuf_toBuf _ _
theorem rd_quaternary {a : TRef sig Ta} {b : TRef sig Tb} {c : TRef sig Tc} {e : TRef sig Te} {y : TRef sig T}
    {f : Ta.Contents Val → Tb.Contents Val → Tc.Contents Val → Te.Contents Val → T.Contents Val}
    (h : (TRef.quaternary (τ := τ) a b c e y f).result W = W) : rd W y = f (rd W a) (rd W b) (rd W c) (rd W e) := by
  have := congrFun h (Proc.devRef .tc y.ref)
  rw [quaternary_result'] at this
  conv_lhs => unfold rd
  rw [← this]; exact TRef.ofBuf_toBuf _ _

theorem at_nullary {y : Ref sig .tc} {v : y.ty.Contents Val} {hy} (h : (nullary (τ := τ) y v hy).result W = W) :
    W (Proc.devRef .tc y) = v := by
  have := congrFun h (Proc.devRef .tc y)
  rw [nullary_result'] at this; exact this.symm
theorem at_unary {x y : Ref sig .tc} {f : x.ty.Contents Val → y.ty.Contents Val} {hx hy}
    (h : (unary (τ := τ) x y f hx hy).result W = W) : W (Proc.devRef .tc y) = f (W (Proc.devRef .tc x)) := by
  have := congrFun h (Proc.devRef .tc y)
  rw [unary_result'] at this; exact this.symm
theorem at_reshape {x y : Ref sig .tc} {he hn hx hy} (h : (reshape (τ := τ) (Val := Val) x y he hn hx hy).result W = W) :
    W (Proc.devRef .tc y) = fun i => he ▸ shapeCast y.ty.shape (W (Proc.devRef .tc x)) hn i := by
  have := congrFun h (Proc.devRef .tc y)
  rw [reshape_result'] at this; exact this.symm
theorem at_binary {a b y : Ref sig .tc} {f : a.ty.Contents Val → b.ty.Contents Val → y.ty.Contents Val} {ha hb hy}
    (h : (binary (τ := τ) a b y f ha hb hy).result W = W) :
    W (Proc.devRef .tc y) = f (W (Proc.devRef .tc a)) (W (Proc.devRef .tc b)) := by
  have := congrFun h (Proc.devRef .tc y)
  rw [binary_result'] at this; exact this.symm
theorem at_ternary {c a b y : Ref sig .tc}
    {f : c.ty.Contents Val → a.ty.Contents Val → b.ty.Contents Val → y.ty.Contents Val} {hc ha hb hy}
    (h : (ternary (τ := τ) c a b y f hc ha hb hy).result W = W) :
    W (Proc.devRef .tc y) = f (W (Proc.devRef .tc c)) (W (Proc.devRef .tc a)) (W (Proc.devRef .tc b)) := by
  have := congrFun h (Proc.devRef .tc y)
  rw [ternary_result'] at this; exact this.symm
theorem at_nary {n : Nat} {xs : Fin n → Ref sig .tc} {y : Ref sig .tc}
    {f : ((k : Fin n) → (xs k).ty.Contents Val) → y.ty.Contents Val} {hxs hy}
    (h : (nary (τ := τ) xs y f hxs hy).result W = W) :
    W (Proc.devRef .tc y) = f (fun k => W (Proc.devRef .tc (xs k))) := by
  have := congrFun h (Proc.devRef .tc y)
  rw [nary_result'] at this; exact this.symm

end Cert.Settle

end
-- ==== Proof.RefRun.lean ====
/-
  The reference's run, read through `Settle`: at the end there are contents that hold what memory holds, that keep the
  arguments, and that every operation of the reference leaves alone.
-/
module

public import proofs.«01_k».proof.Proof.Settle
public import proofs.«01_k».proof.Proof.Gen.ReferenceIdeal
public import Idealize.ShloMosaic.Lib.Claim
public import Idealize.ShloMosaic.PureOps.Ideal

@[expose] public section

set_option maxRecDepth 16384

noncomputable section

namespace Cert.RefRun

open Idealize.ShloMosaic Idealize.ShloMosaic.StableHlo Idealize.SL.Sem Cert.ReferenceIdeal Cert.Settle

attribute [local instance] Cert.ReferenceIdeal.Gen.facts

set_option maxHeartbeats 4000000 in
theorem main_line : ∃ ops : List (HloOp τ sig (Elt Ideal)),
    (∀ d, IsSeq (main (F := Ideal) d) ops) ∧ (ops.Forall fun op => op.bufs ⊆ tcRefs τ sig) ∧ (∀ op ∈ ops, op.fresh = ∅)
      ∧ ∃ ls : List (ℕ × List ℕ), Line ops ls ∧ ordered 14 ls = true := by
  refine ⟨_, by hlo_seq, by simp, ?fresh, ?line⟩
  case line =>
    apply Exists.intro
    apply And.intro
    · repeat (first
        | with_reducible apply Line.cons (touches_tunary _ _ _)
        | with_reducible apply Line.cons (touches_tbinary _ _ _ _)
        | with_reducible apply Line.cons (touches_tnullary _ _)
        | with_reducible apply Line.cons (touches_unary _ _ _ _ _)
        | with_reducible apply Line.cons (touches_binary _ _ _ _ _ _ _)
        | with_reducible apply Line.cons (touches_nullary _ _ _)
        | with_reducible apply Line.cons (touches_tternary _ _ _ _ _)
        | with_reducible apply Line.cons (touches_ternary _ _ _ _ _ _ _ _ _)
        | with_reducible apply Line.cons (touches_reshape _ _ _ _ _ _)
        | with_reducible apply Line.cons (touches_tquaternary _ _ _ _ _ _)
        | with_reducible apply Line.cons (touches_nary _ _ _ _ _)
        | with_reducible exact Line.nil)
    · decide +kernel
  case fresh => intro _ h; (repeat (cases h with | head => rfl | tail _ h => ?_)); exact nomatch h

variable (m : (ℓ : Loc nD τ sig) → Buf (Elt Ideal) ℓ) (g : Dev nD → PrngReg)

/-- The contents at the end of the run. -/
def final (d : Dev nD) : Valuation τ sig (Elt Ideal) := after main_line.choose (launchContents m d)

theorem run : θ_run (defs (F := Ideal)) (onTc (τ := τ) (main (F := Ideal))) ⟨m, fun _ => 0, g⟩ fun r =>
    ∀ (d : Dev nD) (b : Ref sig .tc), r.2.mem ((d.tc : Thread nD τ).loc b) = final m d (Proc.devRef .tc b) :=
  let h := main_line.choose_spec
  run_hlo _ _ h.1 (by decide) (by decide) h.2.1 h.2.2.1 m g

theorem settled (d : Dev nD) : Settled (final m d) (main (F := Ideal) d) :=
  let h := main_line.choose_spec
  let l := h.2.2.2.choose_spec
  ⟨_, h.1 d, result_after l.1 14 _ l.2⟩

theorem kept (d : Dev nD) (b : Ref sig .tc) (hb : b.idx.val < 14) :
    final m d (Proc.devRef .tc b) = m ((d.tc : Thread nD τ).loc b) :=
  let l := main_line.choose_spec.2.2.2.choose_spec
  after_below l.1 14 _ l.2 b hb

end Cert.RefRun

end
-- ==== Proof.Frames.lean ====
/-
  The frames: the kernel's come whole from the generated modules; the reference runs as a straight line of host
  operations that writes no argument (RefRun.lean) and declares no semaphore.
-/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Frames

open Idealize.ShloMosaic Idealize.SL.Sem

/-- The precondition's one side condition: a scalar broadcasts to the codebooks' shape. -/
theorem preFacts : Cert.Pre_codebooks_below_infinity.Facts := ⟨by decide⟩

attribute [local instance] Cert.Kernel.Gen.facts Cert.KernelIdeal.Gen.facts Cert.ReferenceIdeal.Gen.facts preFacts

theorem kernel : Cert.quiescent_Kernel := fun m g _ => Cert.Kernel.Gen.frame m g
theorem kernelIdeal : Cert.quiescent_KernelIdeal := fun m g _ => Cert.KernelIdeal.Gen.frame m g
theorem kernelIdeal_pre : Cert.quiescent_KernelIdeal_pre_codebooks_below_infinity := fun m g _ => Cert.KernelIdeal.Gen.frame m g

open Cert.ReferenceIdeal in
/-- The reference's run ends with its arguments as they were. -/
theorem reference_args (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), b.idx.val < 14 → r.2.mem ((d.tc : Thread nD τ).loc b) = m ((d.tc : Thread nD τ).loc b) :=
  (θ_run defs _ _).mono (fun _ h d b hb => (h d b).trans (RefRun.kept m d b hb)) (RefRun.run m g)

theorem referenceIdeal : Cert.quiescent_ReferenceIdeal := fun m g _ =>
  (θ_run Cert.ReferenceIdeal.defs _ _).mono (fun r h => ⟨fun c => by
      refine ⟨h c _ ?_, h c _ ?_, h c _ ?_, h c _ ?_, h c _ ?_, h c _ ?_, h c _ ?_, h c _ ?_, h c _ ?_, h c _ ?_, h c _ ?_,
        h c _ ?_, h c _ ?_, h c _ ?_⟩ <;> decide,
      Idealize.ShloMosaic.sem_eq_zero_of_no_sems (by decide) r.2⟩)
    (reference_args m g)

theorem referenceIdeal_pre : Cert.quiescent_ReferenceIdeal_pre_codebooks_below_infinity := fun m g _ => referenceIdeal m g trivial

/-- The comparison's bit says the comparison. -/
theorem lt_of_bit (x y : EReal) (h : BitVec.ofBool (decide (x < y)) = 1#1) : x < y := by
  by_contra hc
  rw [decide_eq_false hc] at h
  exact absurd h (by decide)

/-- Below infinity, as the precondition says it, at one entry. -/
theorem below (m : (ℓ : Loc Cert.KernelIdeal.nD Cert.KernelIdeal.τ Cert.KernelIdeal.sig) → Buf (Elt Ideal) ℓ)
    (h : Pre_KernelIdeal_codebooks_below_infinity m) (c : Dev Cert.KernelIdeal.nD) (j : Cert.KernelIdeal.S4x512x64.Idx) :
    @LT.lt EReal _ (m ((c.tc : Thread Cert.KernelIdeal.nD Cert.KernelIdeal.τ).loc Cert.KernelIdeal.main_arg7) j) ⊤ := by
  have h2 : Ideal.ofBits .f32 0x7F800000#32 = ⊤ := by simp [Ideal.ofBits, Ideal.ieee]
  rw [← h2]
  exact lt_of_bit _ _ (congrFun (h c) j)

end Cert.Frames

end
-- ==== Proof.Rows.lean ====
/-
  The mathematics of ONE ROW, over the extended reals: the encoder, one level of the residual quantizer (distances, first
  nearest code, code vector, residual), the decoder. Both programs compute these functions of a row of `x`, the kernel
  512 rows at a time, the reference all at once.
-/
module

public import Idealize.ShloMosaic.Lib.Pointwise

@[expose] public section

noncomputable section

namespace Cert.Rows

open Idealize.ShloMosaic

/-! ## Linear layers, layer norm and gelu -/

/-- A linear layer with its bias. -/
def lin {n k : ℕ} (x : Fin n → EReal) (W : Fin n → Fin k → EReal) (b : Fin k → EReal) (j : Fin k) : EReal :=
  (∑ a, x a * W a j) + b j

/-- The number of hidden units, as both programs write it. -/
def width : EReal := Ideal.ofBits .f32 0x43000000#32
def mean (h : Fin 128 → EReal) : EReal := Ideal.div (∑ k, h k) width
def var (h : Fin 128 → EReal) : EReal := Ideal.div (∑ k, (h k - mean h) * (h k - mean h)) width

/-- Layer norm with its gain and offset. -/
def norm (h g b : Fin 128 → EReal) (j : Fin 128) : EReal :=
  Ideal.div (h j - mean h) (Ideal.sqrt (var h + Ideal.ofBits .f32 0x3727C5AC#32)) * g j + b j

/-- The tanh form of gelu. -/
def gelu (y : EReal) : EReal :=
  y * (Ideal.ofBits .f32 0x3F000000#32
    * (1 + Ideal.tanh (Ideal.ofBits .f32 0x3F4C422A#32 * (y + Ideal.ofBits .f32 0x3D372713#32 * (y * y * y)))))

/-! ## The nearest code -/

/-- `i` is the first place where `d` is least. -/
def IsFirst {n : ℕ} (d : Fin n → EReal) (i : Fin n) : Prop := (∀ k, d i ≤ d k) ∧ ∀ k, k < i → d i < d k

theorem isFirst_unique {n : ℕ} {d : Fin n → EReal} {i j : Fin n} (hi : IsFirst d i) (hj : IsFirst d j) : i = j := by
  rcases lt_trichotomy i j with h | h | h
  · exact absurd (hj.2 i h) (not_lt.mpr (hi.1 j))
  · exact h
  · exact absurd (hi.2 j h) (not_lt.mpr (hj.1 i))

theorem exists_isFirst (d : Fin 512 → EReal) : ∃ i, IsFirst d i := by
  obtain ⟨m, -, hm⟩ := Finset.exists_min_image Finset.univ d ⟨0, Finset.mem_univ _⟩
  have hne : (Finset.univ.filter fun k => d k = d m).Nonempty := ⟨m, by simp⟩
  refine ⟨(Finset.univ.filter fun k => d k = d m).min' hne, fun k => ?_, fun k hk => ?_⟩
  · have := Finset.min'_mem _ hne
    rw [(Finset.mem_filter.mp this).2]
    exact hm k (Finset.mem_univ _)
  · have h1 := Finset.min'_mem _ hne
    rw [(Finset.mem_filter.mp h1).2]
    refine lt_of_le_of_ne (hm k (Finset.mem_univ _)) fun he => ?_
    exact absurd (Finset.min'_le _ k (by simp [he])) (not_le.mpr hk)

/-- The first place where `d` is least. -/
def best (d : Fin 512 → EReal) : Fin 512 := (exists_isFirst d).choose
theorem best_spec (d : Fin 512 → EReal) : IsFirst d (best d) := (exists_isFirst d).choose_spec
theorem best_eq {d : Fin 512 → EReal} {i : Fin 512} (h : IsFirst d i) : best d = i := isFirst_unique (best_spec d) h

/-- Squared distance of `r` to code `k`, expanded. -/
def dist (r : Fin 64 → EReal) (cb : Fin 512 → Fin 64 → EReal) (k : Fin 512) : EReal :=
  (∑ a, r a * r a) - Ideal.ofBits .f32 0x40000000#32 * (∑ a, r a * cb k a) + ∑ a, cb k a * cb k a

/-- The code chosen for `r`, its vector, and what it leaves of `r`. -/
def code (cb : Fin 512 → Fin 64 → EReal) (r : Fin 64 → EReal) : Fin 512 := best (dist r cb)
def pick (cb : Fin 512 → Fin 64 → EReal) (r : Fin 64 → EReal) : Fin 64 → EReal := cb (code cb r)
def left (cb : Fin 512 → Fin 64 → EReal) (r : Fin 64 → EReal) : Fin 64 → EReal := fun a => r a - pick cb r a
/-- The squared error of the choice. -/
def err (cb : Fin 512 → Fin 64 → EReal) (r : Fin 64 → EReal) : EReal := ∑ a, (pick cb r a - r a) * (pick cb r a - r a)

/-! ## The whole row -/

/-- The weights. -/
structure Weights where
  ew1 : Fin 14 → Fin 128 → EReal
  eb1 : Fin 128 → EReal
  eg : Fin 128 → EReal
  ebe : Fin 128 → EReal
  ew2 : Fin 128 → Fin 64 → EReal
  eb2 : Fin 64 → EReal
  cb : Fin 4 → Fin 512 → Fin 64 → EReal
  dw1 : Fin 64 → Fin 128 → EReal
  db1 : Fin 128 → EReal
  dg : Fin 128 → EReal
  dbe : Fin 128 → EReal
  dw2 : Fin 128 → Fin 14 → EReal
  db2 : Fin 14 → EReal

variable (w : Weights)

def enc (x : Fin 14 → EReal) : Fin 64 → EReal :=
  lin (fun k => gelu (norm (lin x w.ew1 w.eb1) w.eg w.ebe k)) w.ew2 w.eb2

/-- What is left of `z` before level `q`. -/
def rest (z : Fin 64 → EReal) (q : Fin 4) : Fin 64 → EReal :=
  match q with
  | 0 => z
  | 1 => left (w.cb 0) z
  | 2 => left (w.cb 1) (left (w.cb 0) z)
  | 3 => left (w.cb 2) (left (w.cb 1) (left (w.cb 0) z))

/-- The sum of the chosen code vectors. -/
def total (z : Fin 64 → EReal) (a : Fin 64) : EReal :=
  0 + pick (w.cb 0) (rest w z 0) a + pick (w.cb 1) (rest w z 1) a + pick (w.cb 2) (rest w z 2) a
    + pick (w.cb 3) (rest w z 3) a

def dec (z : Fin 64 → EReal) : Fin 14 → EReal :=
  lin (fun k => gelu (norm (lin (fun a => z a + (total w z a - z a)) w.dw1 w.db1) w.dg w.dbe k)) w.dw2 w.db2

/-- The three results of a row: its reconstruction, its four codes, its four squared errors. -/
def recon (x : Fin 14 → EReal) : Fin 14 → EReal := dec w (enc w x)
def codes (x : Fin 14 → EReal) (q : Fin 4) : Fin 512 := code (w.cb q) (rest w (enc w x) q)
def errs (x : Fin 14 → EReal) (q : Fin 4) : EReal := err (w.cb q) (rest w (enc w x) q)

theorem err_nonneg (cb : Fin 512 → Fin 64 → EReal) (r : Fin 64 → EReal) : 0 ≤ err cb r :=
  Finset.sum_nonneg fun a _ => by
    rcases le_total 0 (pick cb r a - r a) with h | h
    · exact mul_nonneg h h
    · rw [← neg_mul_neg]; exact mul_nonneg (EReal.neg_nonneg.mpr h) (EReal.neg_nonneg.mpr h)

/-! ## The kernel's spellings -/

theorem two_eq : Ideal.ofBits .f32 0x40000000#32 = ((2 : ℝ) : EReal) := by
  simp [Ideal.ofBits, Ideal.ieee, -EReal.coe_mul]; norm_num
theorem c512_eq : Ideal.ofBits .f32 0x44000000#32 = ((512 : ℝ) : EReal) := by
  simp [Ideal.ofBits, Ideal.ieee, -EReal.coe_mul]; norm_num
theorem width_eq : width = ((128 : ℝ) : EReal) := by
  simp [width, Ideal.ofBits, Ideal.ieee, -EReal.coe_mul]; norm_num
theorem inf_eq : Ideal.ofBits .f32 0x7F800000#32 = ⊤ := by
  simp [Ideal.ofBits, Ideal.ieee]
theorem quarter_eq : Ideal.ofBits .f32 0x3E800000#32 = ((1 / 4 : ℝ) : EReal) := by
  simp [Ideal.ofBits, Ideal.ieee, -EReal.coe_mul]; norm_num
theorem count_eq : Ideal.ofBits .f32 0x4A000000#32 = ((2097152 : ℝ) : EReal) := by
  simp [Ideal.ofBits, Ideal.ieee, -EReal.coe_mul]; norm_num
theorem share_eq : Ideal.ofBits .f32 0x34000000#32 = ((1 / 8388608 : ℝ) : EReal) := by
  simp [Ideal.ofBits, Ideal.ieee, -EReal.coe_mul]; norm_num

/-- Doubling inside a product and a sum is doubling outside. -/
theorem sum_double {n : ℕ} (r c : Fin n → EReal) :
    ∑ a, (r a + r a) * c a = Ideal.ofBits .f32 0x40000000#32 * ∑ a, r a * c a := by
  have h2 : ∀ y : EReal, ((2 : ℝ) : EReal) * y = y + y := fun y => by
    have : ((2 : ℝ) : EReal) = 1 + 1 := by norm_cast
    rw [this, EReal.right_distrib_of_nonneg (by norm_num) (by norm_num), one_mul]
  have h : ∀ a, (r a + r a) * c a = r a * c a + r a * c a := fun a => by
    rw [← h2 (r a), mul_assoc, h2]
  rw [two_eq, h2, ← Finset.sum_add_distrib]
  exact Finset.sum_congr rfl fun a _ => h a

/-- The least of a family, folded from infinity, is reached and is below all. -/
theorem fold_min_spec {n : ℕ} (f : Fin n → EReal) :
    (∀ k, Finset.univ.fold min ⊤ f ≤ f k) ∧ ∀ c, (∀ k, c ≤ f k) → c ≤ Finset.univ.fold min ⊤ f := by
  refine ⟨fun k => ?_, fun c hc => ?_⟩
  · rw [Finset.fold_min_le]; exact Or.inr ⟨k, Finset.mem_univ _, le_rfl⟩
  · rw [Finset.le_fold_min]; exact ⟨le_top, fun k _ => hc k⟩

/-- The kernel's search: the least of the places (as numbers) where `d` is least, is the first such place. -/
theorem first_place (d : Fin 512 → EReal) :
    Finset.univ.fold min ⊤ (fun k : Fin 512 => if d k = Finset.univ.fold min ⊤ d then (((k : ℕ) : ℝ) : EReal) else ((512 : ℝ) : EReal))
      = (((best d : ℕ) : ℝ) : EReal) := by
  have hb := best_spec d
  have hm : Finset.univ.fold min ⊤ d = d (best d) :=
    le_antisymm ((fold_min_spec d).1 _) ((fold_min_spec d).2 _ hb.1)
  rw [hm]
  refine le_antisymm ?_ ?_
  · refine ((fold_min_spec _).1 (best d)).trans ?_
    rw [if_pos rfl]
  · refine (fold_min_spec _).2 _ fun k => ?_
    split_ifs with h
    · have : best d ≤ k := by
        by_contra hlt
        exact absurd (hb.2 k (not_le.mp hlt)) (by rw [h]; exact lt_irrefl _)
      exact_mod_cast this
    · exact_mod_cast (best d).isLt.le

/-- A product with the indicator of one place picks the factor there. -/
theorem sum_indicator {n : ℕ} (i : Fin n) (f : Fin n → EReal) : ∑ k, (if k = i then (1 : EReal) else 0) * f k = f i := by
  rw [Finset.sum_eq_single i]
  · rw [if_pos rfl, one_mul]
  · intro k _ hk; rw [if_neg hk, zero_mul]
  · intro h; exact absurd (Finset.mem_univ i) h

/-- The three parts a code entry is split into add up to it, unless it is infinite. -/
theorem parts_sum (c : EReal) (h : c < ⊤) : c + (c - c) + (c - c - (c - c)) = c := by
  induction c using EReal.rec with
  | bot => rfl
  | top => exact absurd h (lt_irrefl _)
  | coe r => norm_cast; simp

end Cert.Rows

end
-- ==== Proof.Level.lean ====
/-
  One level of the residual quantizer as the kernel computes it, 512 rows at a time: the first nearest code by two minima
  over the lanes, the chosen vectors by a product with the indicator of the code, in three parts. Each value of the kernel is
  the corresponding function of the row (Rows.lean).
-/
module

public import proofs.«01_k».proof.Proof.Gen.KernelIdeal.Skeleton
public import proofs.«01_k».proof.Proof.Rows

@[expose] public section

set_option maxRecDepth 16384

noncomputable section

namespace Cert.Level

open Idealize.ShloMosaic Cert.KernelIdeal Cert.KernelIdeal.Gen Cert.Rows

attribute [local instance] Cert.KernelIdeal.Gen.facts

/-- Row `i` of a block. -/
def row {n k : ℕ} (r : (⟨2, ![n, k]⟩ : Shape).Idx → EReal) (i : Fin n) : Fin k → EReal := fun a => r (ix2 i a)

/-- The lane numbers. -/
theorem lanes (i j : Fin 512) : k0_pay6 (F := Ideal) (ix2 i j) = (((j : ℕ) : ℝ) : EReal) := by
  have h : k0_pay6 (F := Ideal) (ix2 i j) = (((BitVec.ofNat 32 (j : ℕ)).toInt : ℝ) : EReal) := by
    pointwise [k0_pay6]
    rfl
  rw [h, BitVec.toInt_ofNat', Int.bmod_eq_of_le (by omega) (by omega)]
  rfl

/-- The comparison of two places as a float is the indicator. -/
theorem indicator (k j : Fin 512) :
    FloatOps.sitofp (F := Ideal) .f32 (BitVec.setWidth 32 (BitVec.ofBool (decide ((((k : ℕ) : ℝ) : EReal) = (((j : ℕ) : ℝ) : EReal)))))
      = if k = j then (1 : EReal) else 0 := by
  have h : ((((k : ℕ) : ℝ) : EReal) = (((j : ℕ) : ℝ) : EReal)) ↔ k = j := by
    rw [EReal.coe_eq_coe_iff, Nat.cast_inj, Fin.ext_iff]
  by_cases hk : k = j
  · rw [if_pos hk, decide_eq_true (h.mpr hk)]
    change (((1 : ℤ) : ℝ) : EReal) = 1
    norm_num
  · rw [if_neg hk, decide_eq_false (mt h.mp hk)]
    change (((0 : ℤ) : ℝ) : EReal) = 0
    norm_num

/-- A place read back from a float. -/
theorem back (k : ℕ) (hk : k < 512) : FloatOps.fptosi (F := Ideal) (φ := .f32) 32 ((((k : ℕ) : ℝ) : EReal)) = BitVec.ofNat 32 k := by
  change BitVec.ofInt 32 (Ideal.toIntClamped _ _ (((k : ℕ) : ℝ) : EReal)) = _
  rw [Ideal.toIntClamped_coe, if_pos (Nat.cast_nonneg k), Int.floor_natCast]
  have h : max (-(((2 ^ (32 - 1) : Nat) : Int))) (min ((((2 ^ (32 - 1) : Nat) : Int)) - 1) (k : Int)) = k := by
    norm_num; omega
  rw [h]
  exact BitVec.ofInt_natCast 32 k

/-- What the kernel holds of one codebook: norms, the transpose, and three parts that sum to it. -/
structure Holds (cb : Fin 512 → Fin 64 → EReal) (n : Vec Ideal S1x512 .f32) (ct : Vec Ideal S64x512 .bf16)
    (p : Vec Ideal S1x192x512 .bf16) : Prop where
  norms : ∀ k, n (ix2 0 k) = ∑ a, cb k a * cb k a
  codes : ∀ a k, ct (ix2 a k) = cb k a
  parts : ∀ (a : Fin 64) k, (p (ix3 0 ⟨a, by omega⟩ k) : EReal) + p (ix3 0 ⟨64 + a, by omega⟩ k) + p (ix3 0 ⟨128 + a, by omega⟩ k) = cb k a

variable {cb : Fin 512 → Fin 64 → EReal} {n : Vec Ideal S1x512 .f32} {ct : Vec Ideal S64x512 .bf16} {p : Vec Ideal S1x192x512 .bf16}

/-- The lane of the first nearest code, as a number. -/
theorem code_lane (H : Holds cb n ct p) (r : Vec Ideal S512x64 .f32) (i : Fin 512) :
    k0_pay17 (F := Ideal) k0_pay6 r n ct (ix1 i) = (((code cb (row r i) : ℕ) : ℝ) : EReal) := by
  have hd : ∀ k, (∑ x, r (ix2 i x) * r (ix2 i x) : EReal) - (∑ x, (r (ix2 i x) + r (ix2 i x)) * ct (ix2 x k)) + n (ix2 0 k)
      = dist (row r i) cb k := fun k => by
    rw [H.norms, sum_double (fun a => r (ix2 i a)) (fun a => ct (ix2 a k))]
    simp only [H.codes]
    rfl
  have h := first_place (dist (row r i) cb)
  rw [← inf_eq, ← c512_eq] at h
  pointwise [k0_pay17]
  simp only [lanes, hd]
  exact h

/-- The indicator of the code. -/
theorem hot (H : Holds cb n ct p) (r : Vec Ideal S512x64 .f32) (i k : Fin 512) :
    k0_pay18 (F := Ideal) k0_pay6 r n ct (ix2 i k) = if k = code cb (row r i) then (1 : EReal) else 0 := by
  have h := code_lane H r i
  pointwise [k0_pay18]
  rw [h, lanes]
  exact indicator _ _

/-- The chosen vector. -/
theorem picked (H : Holds cb n ct p) (r : Vec Ideal S512x64 .f32) (i : Fin 512) (a : Fin 64) :
    k0_pay19 (F := Ideal) k0_pay6 r n ct p (ix2 i a) = pick cb (row r i) a := by
  pointwise [k0_pay19]
  simp only [hot H, sum_indicator]
  exact H.parts a _

/-- The residual. -/
theorem row_left (H : Holds cb n ct p) (r : Vec Ideal S512x64 .f32) (i : Fin 512) :
    row (k0_pay22 (F := Ideal) k0_pay6 r n ct p) i = left cb (row r i) := by
  funext a
  unfold row
  have h := picked H r i a
  pointwise [k0_pay22]
  rw [h]
  rfl

/-- The block's squared error. -/
theorem block_err (H : Holds cb n ct p) (r : Vec Ideal S512x64 .f32) :
    k0_pay20 (F := Ideal) k0_pay6 r n ct p = ∑ i, err cb (row r i) := by
  pointwise [k0_pay20]
  simp only [picked H]
  rfl

/-- The code as the kernel stores it. -/
theorem stored (H : Holds cb n ct p) (r : Vec Ideal S512x64 .f32) (i : Fin 512) :
    k0_pay23 (F := Ideal) k0_pay6 r n ct (ix2 i 0) = BitVec.ofNat 32 (code cb (row r i)) := by
  have h := code_lane H r i
  pointwise [k0_pay23]
  rw [h]
  exact back _ (code cb (row r i)).isLt

/-- The count of each code in the block, added to what was counted before. -/
theorem counted (H : Holds cb n ct p) (r : Vec Ideal S512x64 .f32) (c : Vec Ideal S1x512 .f32) (k : Fin 512) :
    k0_pay26 (F := Ideal) (k0_pay24 c) (k0_pay25 k0_pay6 r n ct) (ix2 0 k)
      = c (ix2 0 k) + ∑ i, if k = code cb (row r i) then (1 : EReal) else 0 := by
  pointwise [k0_pay26, k0_pay25, k0_pay24]
  simp only [hot H]

end Cert.Level

end
-- ==== Proof.Dense.lean ====
/-
  The kernel's two dense nets, 512 rows at a time: a linear layer, layer norm, gelu, and a second linear layer are those
  functions of each row (Rows.lean).
-/
module

public import proofs.«01_k».proof.Proof.Gen.KernelIdeal.Skeleton
public import proofs.«01_k».proof.Proof.Level

@[expose] public section

set_option maxRecDepth 16384

noncomputable section

namespace Cert.Dense

open Idealize.ShloMosaic Cert.KernelIdeal Cert.KernelIdeal.Gen Cert.Rows Cert.Level

attribute [local instance] Cert.KernelIdeal.Gen.facts

/-- A matrix as a function of its two indices, and a one-row matrix as a function of its lane. -/
abbrev mat {n k : ℕ} (W : (⟨2, ![n, k]⟩ : Shape).Idx → EReal) : Fin n → Fin k → EReal := fun a j => W (ix2 a j)
abbrev vec {k : ℕ} (b : (⟨2, ![1, k]⟩ : Shape).Idx → EReal) : Fin k → EReal := fun j => b (ix2 0 j)

/-- The encoder's first layer. -/
theorem first (x : Vec Ideal S512x14 .f32) (W : Vec Ideal S14x128 .bf16) (b : Vec Ideal S1x128 .f32) (i : Fin 512) :
    row (k0_pay7 (F := Ideal) x W b) i = lin (row x i) (mat W) (vec b) := by
  funext j
  unfold row
  pointwise [k0_pay7]
  rfl

theorem mean_first (x : Vec Ideal S512x14 .f32) (W : Vec Ideal S14x128 .bf16) (b : Vec Ideal S1x128 .f32) (i : Fin 512) :
    k0_pay10 (F := Ideal) x W b (ix2 i 0) = mean (row (k0_pay7 (F := Ideal) x W b) i) := by
  pointwise [k0_pay10]
  rfl

theorem full_width : Ideal.ofBits .f32 0x43000000#32 - (((0#32 : BitVec 32).toInt : ℝ) : EReal) = width := by
  change width - (((0 : ℤ) : ℝ) : EReal) = width
  norm_num

theorem width_pos : Scalar.cmpf (F := Ideal) (φ := .f32) .ogt (k0_pay11 (F := Ideal)) (Scalar.ofBits .f32 0x00000000#32) = 1#1 := by
  have h : k0_pay11 (F := Ideal) = ((128 : ℝ) : EReal) := full_width.trans width_eq
  rw [h]
  change BitVec.ofBool (decide (Ideal.ofBits .f32 0x00000000#32 < ((128 : ℝ) : EReal))) = 1#1
  rw [Ideal.ofBits_zero_f32, decide_eq_true (by norm_num)]
  rfl

theorem var_first (x : Vec Ideal S512x14 .f32) (W : Vec Ideal S14x128 .bf16) (b : Vec Ideal S1x128 .f32) (i : Fin 512) :
    k0_pay12 (F := Ideal) x W b (ix2 i 0) = var (row (k0_pay7 (F := Ideal) x W b) i) := by
  pointwise [k0_pay12, k0_pay11]
  rw [full_width]
  rfl

/-- The cube by the other association. -/
theorem gelu_eq (y : EReal) : y * (Ideal.ofBits .f32 0x3F000000#32
    * (1 + Ideal.tanh (Ideal.ofBits .f32 0x3F4C422A#32 * (y + Ideal.ofBits .f32 0x3D372713#32 * (y * (y * y)))))) = gelu y := by
  unfold gelu
  rw [mul_assoc y y y]

/-- Layer norm, gelu and the second layer of the encoder. -/
theorem second (h : Vec Ideal S512x128 .f32) (g be : Vec Ideal S1x128 .f32) (mu va : Vec Ideal S512x1 .f32)
    (W : Vec Ideal S128x64 .bf16) (b : Vec Ideal S1x64 .f32) (i : Fin 512)
    (hmu : mu (ix2 i 0) = mean (row h i)) (hva : va (ix2 i 0) = var (row h i)) :
    row (k0_pay13 (F := Ideal) h (k0_pay8 g) (k0_pay9 be) mu va 1#1 W b) i
      = lin (fun k => gelu (norm (row h i) (vec g) (vec be) k)) (mat W) (vec b) := by
  funext j
  unfold row at *
  pointwise [k0_pay13, k0_pay8, k0_pay9]
  simp only [hmu, hva]
  exact congrArg (· + _) (Finset.sum_congr rfl fun k _ => congrArg (· * _) (gelu_eq _))

/-! ## The decoder -/

/-- The chosen vector at the last level, whose product the kernel spells apart from its indicator. -/
theorem dec_first (z tq : Vec Ideal S512x64 .f32) (p : Vec Ideal S192x512 .bf16) (o : Vec Ideal S512x512 .f32)
    (W : Vec Ideal S64x128 .bf16) (b : Vec Ideal S1x128 .f32) (i : Fin 512) :
    row (k0_pay51 (F := Ideal) z tq p o W b) i
      = lin (fun a => row z i a + (row tq i a + row (k0_pay48 (F := Ideal) p o) i a - row z i a)) (mat W) (vec b) := by
  funext j
  unfold row
  pointwise [k0_pay51]
  rfl

section
variable (z tq : Vec Ideal S512x64 .f32) (p : Vec Ideal S192x512 .bf16) (o : Vec Ideal S512x512 .f32)
    (W : Vec Ideal S64x128 .bf16) (b : Vec Ideal S1x128 .f32) (i : Fin 512)

theorem dec_mean : k0_pay54 (F := Ideal) z tq p o W b (ix2 i 0) = mean (row (k0_pay51 (F := Ideal) z tq p o W b) i) := by
  pointwise [k0_pay54]
  rfl

theorem dec_means (j : Fin 128) : k0_pay55 (F := Ideal) z tq p o W b (ix2 i j) = mean (row (k0_pay51 (F := Ideal) z tq p o W b) i) := by
  pointwise [k0_pay55]
  rfl
end

theorem dec_second (h : Vec Ideal S512x128 .f32) (g be : Vec Ideal S1x128 .f32) (mu : Vec Ideal S512x1 .f32)
    (mb : Vec Ideal S512x128 .f32) (W : Vec Ideal S128x14 .bf16) (b : Vec Ideal S1x14 .f32) (i : Fin 512)
    (hmu : mu (ix2 i 0) = mean (row h i)) (hmb : ∀ j, mb (ix2 i j) = mean (row h i)) :
    row (k0_pay56 (F := Ideal) h (k0_pay52 g) (k0_pay53 be) mu 0#32 mb W b) i
      = lin (fun k => gelu (norm (row h i) (vec g) (vec be) k)) (mat W) (vec b) := by
  funext j
  unfold row at *
  have hw : (0 : EReal) < width := by rw [width_eq]; norm_num
  pointwise [k0_pay56, k0_pay52, k0_pay53]
  simp only [full_width, if_pos hw]
  pointwise
  simp only [hmu, hmb]
  exact congrArg (· + _) (Finset.sum_congr rfl fun k _ => congrArg (· * _) (gelu_eq _))

end Cert.Dense

end
-- ==== Proof.Block.lean ====
/-
  A whole block of the kernel: encoder, four levels, decoder over 512 rows, as functions of the block's inputs. `Ins` names
  the inputs; `recBlk`, `idxBlk`, `sumErr`, `histBlk` are the kernel's four values, in its own payloads; the theorems read
  each at a row as the row's function (Rows.lean).
-/
module

public import proofs.«01_k».proof.Proof.Dense

@[expose] public section

set_option maxRecDepth 16384

noncomputable section

namespace Cert.Block

open Idealize.ShloMosaic Cert.KernelIdeal Cert.KernelIdeal.Gen Cert.Rows Cert.Level Cert.Dense

attribute [local instance] Cert.KernelIdeal.Gen.facts

/-- A block's inputs. -/
structure Ins where
  x : Vec Ideal S512x14 .f32
  ew1 : Vec Ideal S14x128 .bf16
  eb1 : Vec Ideal S1x128 .f32
  eg : Vec Ideal S1x128 .f32
  ebe : Vec Ideal S1x128 .f32
  ew2 : Vec Ideal S128x64 .bf16
  eb2 : Vec Ideal S1x64 .f32
  n : Fin 4 → Vec Ideal S1x512 .f32
  ct : Fin 4 → Vec Ideal S1x64x512 .bf16
  p : Fin 4 → Vec Ideal S1x192x512 .bf16
  dw1 : Vec Ideal S64x128 .bf16
  db1 : Vec Ideal S1x128 .f32
  dg : Vec Ideal S1x128 .f32
  dbe : Vec Ideal S1x128 .f32
  dw2 : Vec Ideal S128x14 .bf16
  db2 : Vec Ideal S1x14 .f32

variable (I : Ins)

/-! ## The kernel's values -/

def z : Vec Ideal S512x64 .f32 :=
  k0_pay13 (k0_pay7 I.x I.ew1 I.eb1) (k0_pay8 I.eg) (k0_pay9 I.ebe) (k0_pay10 I.x I.ew1 I.eb1) (k0_pay12 I.x I.ew1 I.eb1)
    (Scalar.cmpf (F := Ideal) (φ := .f32) .ogt (k0_pay11 (F := Ideal)) (Scalar.ofBits .f32 0x00000000#32)) I.ew2 I.eb2

/-- The chosen vectors, and the residual, of a level. -/
def qv (q : Fin 4) (r : Vec Ideal S512x64 .f32) : Vec Ideal S512x64 .f32 := k0_pay19 k0_pay6 r (k0_pay15 (I.n q)) (k0_pay16 (I.ct q)) (I.p q)
def next (q : Fin 4) (r : Vec Ideal S512x64 .f32) : Vec Ideal S512x64 .f32 := k0_pay22 k0_pay6 r (k0_pay15 (I.n q)) (k0_pay16 (I.ct q)) (I.p q)
def r1 := next I 0 (z I)
def r2 := next I 1 (r1 I)
def r3 := next I 2 (r2 I)

def v204 := k0_pay37 (F := Ideal) k0_pay6 (r1 I) (qv I 1 (r1 I)) (I.n 2) (I.ct 2) (I.p 2)
def v207 := k0_pay38 (F := Ideal) k0_pay6 (r1 I) (qv I 1 (r1 I)) (I.n 2) (I.ct 2) (I.p 2)
def tq : Vec Ideal S512x64 .f32 :=
  k0_pay41 (k0_pay32 (k0_pay21 k0_pay6 (z I) k0_pay14 (k0_pay15 (I.n 0)) (k0_pay16 (I.ct 0)) (I.p 0)) (qv I 1 (r1 I))) (v204 I) (v207 I)
def v250 := k0_pay47 (F := Ideal) k0_pay6 (r2 I) (v204 I) (v207 I) (I.n 3) (I.ct 3)

def recBlk : Vec Ideal S512x14 .f32 :=
  k0_pay56 (k0_pay51 (z I) (tq I) (k0_pay44 (I.p 3)) (v250 I) I.dw1 I.db1) (k0_pay52 I.dg) (k0_pay53 I.dbe)
    (k0_pay54 (z I) (tq I) (k0_pay44 (I.p 3)) (v250 I) I.dw1 I.db1) 0#32
    (k0_pay55 (z I) (tq I) (k0_pay44 (I.p 3)) (v250 I) I.dw1 I.db1) I.dw2 I.db2

def idx0 : Vec Ideal S512x1 .i32 := k0_pay23 (F := Ideal) k0_pay6 (z I) (k0_pay15 (I.n 0)) (k0_pay16 (I.ct 0))
def idx1 : Vec Ideal S512x1 .i32 := k0_pay34 (k0_pay28 (F := Ideal) k0_pay6 (r1 I) (I.n 1) (I.ct 1))
def idx2 : Vec Ideal S512x1 .i32 := k0_pay43 (k0_pay36 (F := Ideal) k0_pay6 (r1 I) (qv I 1 (r1 I)) (I.n 2) (I.ct 2))
def idx3 : Vec Ideal S512x1 .i32 := k0_pay50 (k0_pay46 (F := Ideal) k0_pay6 (r2 I) (v204 I) (v207 I) (I.n 3) (I.ct 3))

def sumErr : EReal :=
  k0_pay49 (F := Ideal)
    (k0_pay40 (k0_pay31 (k0_pay20 k0_pay6 (z I) (k0_pay15 (I.n 0)) (k0_pay16 (I.ct 0)) (I.p 0))
      (k0_pay30 k0_pay6 (r1 I) (I.n 1) (I.ct 1) (I.p 1))) (r2 I) (v204 I) (v207 I))
    (r3 I) (k0_pay44 (I.p 3)) (v250 I)

def commitBlk (prev : Vec Ideal S1x1 .f32) : Vec Ideal S1x1 .f32 := k0_pay1 (F := Ideal) (sumErr I) prev
def histBlk (prev : Vec Ideal S1x512 .f32) : Vec Ideal S1x512 .f32 :=
  k0_pay26 (F := Ideal) (k0_pay24 prev) (k0_pay25 k0_pay6 (z I) (k0_pay15 (I.n 0)) (k0_pay16 (I.ct 0)))

/-! ## The levels' other spellings -/

theorem spell29 (q : Fin 4) (r : Vec Ideal S512x64 .f32) : k0_pay29 (F := Ideal) k0_pay6 r (I.n q) (I.ct q) (I.p q) = qv I q r := rfl
theorem spell33 : k0_pay33 (F := Ideal) (r1 I) (qv I 1 (r1 I)) = r2 I := rfl
theorem spell39 : k0_pay39 (F := Ideal) (v204 I) (v207 I) = qv I 2 (r2 I) := rfl
theorem spell42 : k0_pay42 (F := Ideal) (r2 I) (v204 I) (v207 I) = r3 I := rfl
theorem spell48 : k0_pay48 (F := Ideal) (k0_pay44 (I.p 3)) (v250 I) = qv I 3 (r3 I) := rfl
theorem spell_idx1 : idx1 I = k0_pay23 (F := Ideal) k0_pay6 (r1 I) (k0_pay15 (I.n 1)) (k0_pay16 (I.ct 1)) := rfl
theorem spell_idx2 : idx2 I = k0_pay23 (F := Ideal) k0_pay6 (r2 I) (k0_pay15 (I.n 2)) (k0_pay16 (I.ct 2)) := rfl
theorem spell_idx3 : idx3 I = k0_pay23 (F := Ideal) k0_pay6 (r3 I) (k0_pay15 (I.n 3)) (k0_pay16 (I.ct 3)) := rfl

/-! ## Read at a row -/

/-- The inputs are the weights `w`: the codebooks by their norms, transposes and parts, the rest as they are. -/
structure Fits (w : Weights) : Prop where
  ew1 : mat I.ew1 = w.ew1
  eb1 : vec I.eb1 = w.eb1
  eg : vec I.eg = w.eg
  ebe : vec I.ebe = w.ebe
  ew2 : mat I.ew2 = w.ew2
  eb2 : vec I.eb2 = w.eb2
  level : ∀ q, Holds (w.cb q) (k0_pay15 (I.n q)) (k0_pay16 (I.ct q)) (I.p q)
  dw1 : mat I.dw1 = w.dw1
  db1 : vec I.db1 = w.db1
  dg : vec I.dg = w.dg
  dbe : vec I.dbe = w.dbe
  dw2 : mat I.dw2 = w.dw2
  db2 : vec I.db2 = w.db2

variable {I} {w : Weights} (H : Fits I w) (i : Fin 512)
include H

theorem row_z : row (z I) i = enc w (row I.x i) := by
  unfold z
  rw [width_pos, second _ _ _ _ _ _ _ i (mean_first _ _ _ i) (var_first _ _ _ i), first, H.ew1, H.eb1, H.eg, H.ebe, H.ew2, H.eb2]
  rfl

theorem row_qv (q : Fin 4) (r : Vec Ideal S512x64 .f32) : row (qv I q r) i = pick (w.cb q) (row r i) :=
  funext fun a => picked (H.level q) r i a

theorem row_next (q : Fin 4) (r : Vec Ideal S512x64 .f32) : row (next I q r) i = left (w.cb q) (row r i) := row_left (H.level q) r i

theorem row_r1 : row (r1 I) i = rest w (enc w (row I.x i)) 1 := by
  unfold r1; rw [row_next H, row_z H]; rfl
theorem row_r2 : row (r2 I) i = rest w (enc w (row I.x i)) 2 := by
  unfold r2; rw [row_next H, row_r1 H]; rfl
theorem row_r3 : row (r3 I) i = rest w (enc w (row I.x i)) 3 := by
  unfold r3; rw [row_next H, row_r2 H]; rfl

/-- The sum of the chosen vectors. -/
theorem row_tq (a : Fin 64) : row (tq I) i a + row (qv I 3 (r3 I)) i a = total w (enc w (row I.x i)) a := by
  have h : row (tq I) i a = 0 + row (qv I 0 (z I)) i a + row (qv I 1 (r1 I)) i a + row (qv I 2 (r2 I)) i a := by
    rw [← spell39]
    unfold row tq
    pointwise [k0_pay41, k0_pay32, k0_pay21, k0_pay14]
    rfl
  rw [h, row_qv H, row_qv H, row_qv H, row_qv H, row_z H, row_r1 H, row_r2 H, row_r3 H]
  rfl

theorem row_rec : row (recBlk I) i = recon w (row I.x i) := by
  unfold recBlk
  rw [dec_second _ _ _ _ _ _ _ i (dec_mean _ _ _ _ _ _ i) (dec_means _ _ _ _ _ _ i), dec_first, spell48, H.dw1, H.db1, H.dg, H.dbe,
    H.dw2, H.db2, row_z H]
  simp only [row_tq H]
  rfl

theorem row_idx0 : idx0 I (ix2 i 0) = BitVec.ofNat 32 (codes w (row I.x i) 0) := by
  unfold idx0; rw [stored (H.level 0), row_z H]; rfl
theorem row_idx1 : idx1 I (ix2 i 0) = BitVec.ofNat 32 (codes w (row I.x i) 1) := by
  rw [spell_idx1, stored (H.level 1), row_r1 H]; rfl
theorem row_idx2 : idx2 I (ix2 i 0) = BitVec.ofNat 32 (codes w (row I.x i) 2) := by
  rw [spell_idx2, stored (H.level 2), row_r2 H]; rfl
theorem row_idx3 : idx3 I (ix2 i 0) = BitVec.ofNat 32 (codes w (row I.x i) 3) := by
  rw [spell_idx3, stored (H.level 3), row_r3 H]; rfl

theorem hist_at (c : Vec Ideal S1x512 .f32) (k : Fin 512) :
    histBlk I c (ix2 0 k) = c (ix2 0 k) + ∑ i, if k = codes w (row I.x i) 0 then (1 : EReal) else 0 := by
  unfold histBlk
  rw [counted (H.level 0)]
  simp only [row_z H]
  rfl

omit i in
/-- The block's squared error, level by level. -/
theorem sumErr_eq : sumErr I = ∑ q, ∑ i, errs w (row I.x i) q := by
  have h0 := block_err (H.level 0) (z I)
  have hl : ∀ (q : Fin 4) (r : Vec Ideal S512x64 .f32) , (∑ i : Fin 512, ∑ a, (qv I q r (ix2 i a) - r (ix2 i a)) * (qv I q r (ix2 i a) - r (ix2 i a)) : EReal)
      = ∑ i, err (w.cb q) (row r i) := fun q r =>
    Finset.sum_congr rfl fun i _ => by
      unfold err
      rw [← row_qv H]
      rfl
  have h : sumErr I = k0_pay20 (F := Ideal) k0_pay6 (z I) (k0_pay15 (I.n 0)) (k0_pay16 (I.ct 0)) (I.p 0)
      + (∑ i : Fin 512, ∑ a, (qv I 1 (r1 I) (ix2 i a) - r1 I (ix2 i a)) * (qv I 1 (r1 I) (ix2 i a) - r1 I (ix2 i a)))
      + (∑ i : Fin 512, ∑ a, (qv I 2 (r2 I) (ix2 i a) - r2 I (ix2 i a)) * (qv I 2 (r2 I) (ix2 i a) - r2 I (ix2 i a)))
      + (∑ i : Fin 512, ∑ a, (qv I 3 (r3 I) (ix2 i a) - r3 I (ix2 i a)) * (qv I 3 (r3 I) (ix2 i a) - r3 I (ix2 i a))) := by
    rw [← spell48, ← spell39, ← spell29]
    unfold sumErr
    pointwise [k0_pay49, k0_pay40, k0_pay31, k0_pay30]
  rw [h, h0, hl, hl, hl, Fin.sum_univ_four]
  simp only [row_z H, row_r1 H, row_r2 H, row_r3 H]
  rfl

theorem commit_at (c : Vec Ideal S1x1 .f32) :
    commitBlk I c (ix2 0 0) = c (ix2 0 0) + Ideal.ofBits .f32 0x34000000#32 * ∑ q, ∑ i, errs w (row I.x i) q := by
  rw [← sumErr_eq H]
  unfold commitBlk
  pointwise [k0_pay1]

end Cert.Block

end
-- ==== Proof.Ins.lean ====
/-
  A block's inputs out of its staging buffers, and the block of codes its four column stores leave.
-/
module

public import proofs.«01_k».proof.Proof.Gen.KernelIdeal.Frame
public import proofs.«01_k».proof.Proof.Block

@[expose] public section

set_option maxRecDepth 16384

noncomputable section

namespace Cert.Ins

open Idealize.ShloMosaic Idealize.ShloMosaic.TcCoe Idealize.SL.Sem Cert.KernelIdeal Cert.KernelIdeal.Gen Cert.Block

attribute [local instance] Cert.KernelIdeal.Gen.facts

/-- The block's inputs, out of the staging buffers: slice `q` of the norms, the transposes and the parts for level `q`. -/
def ins (x0 : Vec Ideal S512x14 .f32) (x1 : Vec Ideal S14x128 .bf16) (x2 : Vec Ideal S1x128 .f32) (x3 : Vec Ideal S1x128 .f32) (x4 : Vec Ideal S1x128 .f32) (x5 : Vec Ideal S128x64 .bf16) (x6 : Vec Ideal S1x64 .f32) (x7 : Vec Ideal S4x512 .f32) (x8 : Vec Ideal S4x64x512 .bf16) (x9 : Vec Ideal S4x192x512 .bf16) (x10 : Vec Ideal S64x128 .bf16) (x11 : Vec Ideal S1x128 .f32) (x12 : Vec Ideal S1x128 .f32) (x13 : Vec Ideal S1x128 .f32) (x14 : Vec Ideal S128x14 .bf16) (x15 : Vec Ideal S1x14 .f32) : Ins where
  x := x0
  ew1 := x1
  eb1 := x2
  eg := x3
  ebe := x4
  ew2 := x5
  eb2 := x6
  n := fun
    | 0 => fun j => x7 ((Rect.unit (s := S4x512) ![0, 0] ![1, 512] inb_S4x512_S1x512_0_0).idx j)
    | 1 => fun j => x7 ((Rect.unit (s := S4x512) ![1, 0] ![1, 512] inb_S4x512_S1x512_1_0).idx j)
    | 2 => fun j => x7 ((Rect.unit (s := S4x512) ![2, 0] ![1, 512] inb_S4x512_S1x512_2_0).idx j)
    | 3 => fun j => x7 ((Rect.unit (s := S4x512) ![3, 0] ![1, 512] inb_S4x512_S1x512_3_0).idx j)
  ct := fun
    | 0 => fun j => x8 ((Rect.unit (s := S4x64x512) ![0, 0, 0] ![1, 64, 512] inb_S4x64x512_S1x64x512_0_0_0).idx j)
    | 1 => fun j => x8 ((Rect.unit (s := S4x64x512) ![1, 0, 0] ![1, 64, 512] inb_S4x64x512_S1x64x512_1_0_0).idx j)
    | 2 => fun j => x8 ((Rect.unit (s := S4x64x512) ![2, 0, 0] ![1, 64, 512] inb_S4x64x512_S1x64x512_2_0_0).idx j)
    | 3 => fun j => x8 ((Rect.unit (s := S4x64x512) ![3, 0, 0] ![1, 64, 512] inb_S4x64x512_S1x64x512_3_0_0).idx j)
  p := fun
    | 0 => fun j => x9 ((Rect.unit (s := S4x192x512) ![0, 0, 0] ![1, 192, 512] inb_S4x192x512_S1x192x512_0_0_0).idx j)
    | 1 => fun j => x9 ((Rect.unit (s := S4x192x512) ![1, 0, 0] ![1, 192, 512] inb_S4x192x512_S1x192x512_1_0_0).idx j)
    | 2 => fun j => x9 ((Rect.unit (s := S4x192x512) ![2, 0, 0] ![1, 192, 512] inb_S4x192x512_S1x192x512_2_0_0).idx j)
    | 3 => fun j => x9 ((Rect.unit (s := S4x192x512) ![3, 0, 0] ![1, 192, 512] inb_S4x192x512_S1x192x512_3_0_0).idx j)
  dw1 := x10
  db1 := x11
  dg := x12
  dbe := x13
  dw2 := x14
  db2 := x15

/-- The block of codes: column `q` holds level `q`'s. -/
def idxBlk (I : Ins) : Vec Ideal S512x4 .i32 := fun j => (![idx0 I, idx1 I, idx2 I, idx3 I] : Fin 4 → Vec Ideal S512x1 .i32) (j 1) (ix2 (j 0) 0)

/-- Four column stores, the last first, leave the block whose columns they store. -/
theorem columns (b0 b1 b2 b3 : Vec Ideal S512x1 .i32) :
    (View.canon [⟨Rect.unit (s := S512x4) ![0, 3] S512x1.size inb_S512x4_S512x1_0_3, b3⟩,
      ⟨Rect.unit (s := S512x4) ![0, 2] S512x1.size inb_S512x4_S512x1_0_2, b2⟩,
      ⟨Rect.unit (s := S512x4) ![0, 1] S512x1.size inb_S512x4_S512x1_0_1, b1⟩,
      ⟨Rect.unit (s := S512x4) ![0, 0] S512x1.size inb_S512x4_S512x1_0_0, b0⟩] : Vec Ideal S512x4 .i32)
      = fun j => (![b0, b1, b2, b3] : Fin 4 → Vec Ideal S512x1 .i32) (j 1) (ix2 (j 0) 0) := by
  have key : ∀ (b : Fin 4 → Vec Ideal S512x1 .i32) (q : Fin 4) (inb : ∀ a, (![0, (q : ℕ)] : Fin 2 → ℕ) a + S512x1.size a ≤ S512x4.size a)
      (x : S512x1.Idx), b q x = (fun j : S512x4.Idx => b (j 1) (ix2 (j 0) 0)) ((Rect.unit (s := S512x4) ![0, (q : ℕ)] S512x1.size inb).emb x) := by
    intro b q inb x
    have h0 : ((Rect.unit (s := S512x4) ![0, (q : ℕ)] S512x1.size inb).emb x) 0 = x 0 := by
      apply Fin.ext; show 0 + 1 * (x 0).val = (x 0).val; omega
    have h1 : ((Rect.unit (s := S512x4) ![0, (q : ℕ)] S512x1.size inb).emb x) 1 = q := by
      apply Fin.ext
      have hx : (x 1).val < 1 := (x 1).isLt
      show (q : ℕ) + 1 * (x 1).val = q; omega
    dsimp only
    rw [h0, h1]
    congr 1
    funext a
    match a with
    | ⟨0, _⟩ => rfl
    | ⟨1, _⟩ => exact Fin.ext (by have hx : (x 1).val < 1 := (x 1).isLt; show (x 1).val = 0; omega)
  funext y
  refine View.canon_apply_of_pieces (fun j => (![b0, b1, b2, b3] : Fin 4 → Vec Ideal S512x1 .i32) (j 1) (ix2 (j 0) 0)) _ ?_ y ?_
  · intro p hp x
    simp only [List.mem_cons, List.not_mem_nil, or_false] at hp
    rcases hp with rfl | rfl | rfl | rfl
    · exact key ![b0, b1, b2, b3] 3 inb_S512x4_S512x1_0_3 x
    · exact key ![b0, b1, b2, b3] 2 inb_S512x4_S512x1_0_2 x
    · exact key ![b0, b1, b2, b3] 1 inb_S512x4_S512x1_0_1 x
    · exact key ![b0, b1, b2, b3] 0 inb_S512x4_S512x1_0_0 x
  · have hy0 : (y 0).val < 512 := (y 0).isLt
    have hy1 : (y 1).val < 4 := (y 1).isLt
    simp only [List.mem_cons, List.not_mem_nil, or_false, exists_eq_or_imp, exists_eq_left, Rect.mem_set_unit, Fin.forall_fin_two]
    show ((0 ≤ (y 0).val ∧ (y 0).val < 0 + 512) ∧ 3 ≤ (y 1).val ∧ (y 1).val < 3 + 1) ∨ ((0 ≤ (y 0).val ∧ (y 0).val < 0 + 512) ∧ 2 ≤ (y 1).val ∧ (y 1).val < 2 + 1) ∨ ((0 ≤ (y 0).val ∧ (y 0).val < 0 + 512) ∧ 1 ≤ (y 1).val ∧ (y 1).val < 1 + 1) ∨ ((0 ≤ (y 0).val ∧ (y 0).val < 0 + 512) ∧ 0 ≤ (y 1).val ∧ (y 1).val < 0 + 1)
    omega

end Cert.Ins

end
-- ==== Proof.Cases.lean ====
/-
  What a grid step leaves in each of its windows, in each of the three cases of the body: the first step (the accumulators
  are set to zero first), a middle one, the last (which computes the perplexity from the counts).
-/
module

public import proofs.«01_k».proof.Proof.Gen.KernelIdeal.Frame
public import proofs.«01_k».proof.Proof.Ins

@[expose] public section

set_option maxRecDepth 16384

noncomputable section

namespace Cert.Cases

open Idealize.ShloMosaic Idealize.ShloMosaic.TcCoe Idealize.SL.Sem Cert.KernelIdeal Cert.KernelIdeal.Gen Cert.Block Cert.Ins

attribute [local instance] Cert.KernelIdeal.Gen.facts

theorem hz : (![0, 0] : Fin 2 → Nat) = fun _ => 0 := funext fun a => by fin_cases a <;> rfl

variable (c : Dev nD) (i : grid0.Coords) (a1 : Memref sig .tc .vmem S512x14 .f32) (h1 : a1.IsWhole) (a2 : Memref sig .tc .vmem S14x128 .bf16) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x64 .bf16) (h6 : a6.IsWhole) (a7 : Memref sig .tc .vmem S1x64 .f32) (h7 : a7.IsWhole) (a8 : Memref sig .tc .vmem S4x512 .f32) (h8 : a8.IsWhole) (a9 : Memref sig .tc .vmem S4x64x512 .bf16) (h9 : a9.IsWhole) (a10 : Memref sig .tc .vmem S4x192x512 .bf16) (h10 : a10.IsWhole) (a11 : Memref sig .tc .vmem S64x128 .bf16) (h11 : a11.IsWhole) (a12 : Memref sig .tc .vmem S1x128 .f32) (h12 : a12.IsWhole) (a13 : Memref sig .tc .vmem S1x128 .f32) (h13 : a13.IsWhole) (a14 : Memref sig .tc .vmem S1x128 .f32) (h14 : a14.IsWhole) (a15 : Memref sig .tc .vmem S128x14 .bf16) (h15 : a15.IsWhole) (a16 : Memref sig .tc .vmem S1x14 .f32) (h16 : a16.IsWhole) (a17 : Memref sig .tc .vmem S512x14 .f32) (h17 : a17.IsWhole) (a18 : Memref sig .tc .vmem S512x4 .i32) (h18 : a18.IsWhole) (a19 : Memref sig .tc .vmem S1x1 .f32) (h19 : a19.IsWhole) (a20 : Memref sig .tc .vmem S1x512 .f32) (h20 : a20.IsWhole) (a21 : Memref sig .tc .vmem S1x1 .f32) (h21 : a21.IsWhole)
  (x0 : Vec Ideal S512x14 .f32) (x1 : Vec Ideal S14x128 .bf16) (x2 : Vec Ideal S1x128 .f32) (x3 : Vec Ideal S1x128 .f32) (x4 : Vec Ideal S1x128 .f32) (x5 : Vec Ideal S128x64 .bf16) (x6 : Vec Ideal S1x64 .f32) (x7 : Vec Ideal S4x512 .f32) (x8 : Vec Ideal S4x64x512 .bf16) (x9 : Vec Ideal S4x192x512 .bf16) (x10 : Vec Ideal S64x128 .bf16) (x11 : Vec Ideal S1x128 .f32) (x12 : Vec Ideal S1x128 .f32) (x13 : Vec Ideal S1x128 .f32) (x14 : Vec Ideal S128x14 .bf16) (x15 : Vec Ideal S1x14 .f32)

section A
variable (hc0 : cond0_0 i) (hc1 : ¬cond0_1 i)

theorem recA : out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 = recBlk (ins x0 x1 x2 x3 x4 x5 x6 x7 x8 x9 x10 x11 x12 x13 x14 x15) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15)]
  unfold kernelRun0_A
  dsimp only
  rw [View.canon_cons_unit_zero (S := S512x14) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

theorem idxA : out0_A_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 = idxBlk (ins x0 x1 x2 x3 x4 x5 x6 x7 x8 x9 x10 x11 x12 x13 x14 x15) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  exact columns _ _ _ _

theorem commitA : out0_A_18 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 = commitBlk (ins x0 x1 x2 x3 x4 x5 x6 x7 x8 x9 x10 x11 x12 x13 x14 x15) (k0_pay3 (F := Ideal)) := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15)]
  unfold kernelRun0_A
  dsimp only
  rw [View.canon_cons_unit_zero (S := S1x1) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

theorem histA : out0_A_19 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 = histBlk (ins x0 x1 x2 x3 x4 x5 x6 x7 x8 x9 x10 x11 x12 x13 x14 x15) (k0_pay4 (F := Ideal)) := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15)]
  unfold kernelRun0_A
  dsimp only
  rw [View.canon_cons_unit_zero (S := S1x512) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

theorem perpA : out0_A_20 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 = k0_pay5 (F := Ideal) := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15)]
  unfold kernelRun0_A
  dsimp only
  rw [View.canon_cons_unit_zero (S := S1x1) hz]

end A

section B
variable (hc0 : ¬cond0_0 i) (hc1 : ¬cond0_1 i) (xo18 : Vec Ideal S1x1 .f32) (xo19 : Vec Ideal S1x512 .f32)

theorem recB : out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = recBlk (ins x0 x1 x2 x3 x4 x5 x6 x7 x8 x9 x10 x11 x12 x13 x14 x15) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_B
  dsimp only
  rw [View.canon_cons_unit_zero (S := S512x14) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

theorem idxB : out0_B_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = idxBlk (ins x0 x1 x2 x3 x4 x5 x6 x7 x8 x9 x10 x11 x12 x13 x14 x15) := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  exact columns _ _ _ _

theorem commitB : out0_B_18 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = commitBlk (ins x0 x1 x2 x3 x4 x5 x6 x7 x8 x9 x10 x11 x12 x13 x14 x15) xo18 := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_B
  dsimp only
  rw [View.canon_cons_unit_zero (S := S1x1) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

theorem histB : out0_B_19 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = histBlk (ins x0 x1 x2 x3 x4 x5 x6 x7 x8 x9 x10 x11 x12 x13 x14 x15) xo19 := by
  unfold out0_B_19
  rw [View.read_writes_eq_canon _ _ _ (cover0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_B
  dsimp only
  rw [View.canon_cons_unit_zero (S := S1x512) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

end B

section C
variable (hc0 : ¬cond0_0 i) (hc1 : cond0_1 i) (xo18 : Vec Ideal S1x1 .f32) (xo19 : Vec Ideal S1x512 .f32)

theorem recC : out0_C_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = recBlk (ins x0 x1 x2 x3 x4 x5 x6 x7 x8 x9 x10 x11 x12 x13 x14 x15) := by
  unfold out0_C_16
  rw [View.read_writes_eq_canon _ _ _ (cover0_C_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_C
  dsimp only
  rw [View.canon_cons_unit_zero (S := S512x14) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

theorem idxC : out0_C_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = idxBlk (ins x0 x1 x2 x3 x4 x5 x6 x7 x8 x9 x10 x11 x12 x13 x14 x15) := by
  unfold out0_C_17
  rw [View.read_writes_eq_canon _ _ _ (cover0_C_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  exact columns _ _ _ _

theorem commitC : out0_C_18 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = commitBlk (ins x0 x1 x2 x3 x4 x5 x6 x7 x8 x9 x10 x11 x12 x13 x14 x15) xo18 := by
  unfold out0_C_18
  rw [View.read_writes_eq_canon _ _ _ (cover0_C_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_C
  dsimp only
  rw [View.canon_cons_unit_zero (S := S1x1) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

theorem histC : out0_C_19 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = histBlk (ins x0 x1 x2 x3 x4 x5 x6 x7 x8 x9 x10 x11 x12 x13 x14 x15) xo19 := by
  unfold out0_C_19
  rw [View.read_writes_eq_canon _ _ _ (cover0_C_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

theorem perpC : out0_C_20 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19 = k0_pay2 (F := Ideal) (histBlk (ins x0 x1 x2 x3 x4 x5 x6 x7 x8 x9 x10 x11 x12 x13 x14 x15) xo19) := by
  unfold out0_C_20
  rw [View.read_writes_eq_canon _ _ _ (cover0_C_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 x4 x5 x6 x7 x8 x9 x10 x11 x12 x13 x14 x15 xo18 xo19)]
  unfold kernelRun0_C
  dsimp only
  rw [View.canon_cons_unit_zero (S := S1x1) hz]
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h19.read_unread, h20.read_unread, View.ld_unit_zero (S := S512x14) hz, View.ld_unit_zero (S := S14x128) hz, View.ld_unit_zero (S := S1x128) hz, View.ld_unit_zero (S := S128x64) hz, View.ld_unit_zero (S := S1x64) hz, View.ld_unit_zero (S := S64x128) hz, View.ld_unit_zero (S := S128x14) hz, View.ld_unit_zero (S := S1x14) hz, View.ld_unit_zero (S := S1x1) hz, View.ld_unit_zero (S := S1x512) hz, View.readCov_unit_zero (S := S1x1) _ hz, View.readCov_unit_zero (S := S1x512) _ hz, View.canon_cons_unit_zero (S := S1x512) hz]
  rfl

end C

end Cert.Cases

end
-- ==== Proof.Whole.lean ====
/-
  The four results over the whole arrays, in terms of one row's functions (Rows.lean): what both programs are shown to
  compute. The rows of `x` are counted by batch and position.
-/
module

public import proofs.«01_k».proof.Proof.Rows

@[expose] public section

noncomputable section

namespace Cert.Whole

open Idealize.ShloMosaic Cert.Rows

/-- The weights, out of the argument arrays. -/
def weights (a1 : (⟨2, ![14, 128]⟩ : Shape).Idx → EReal) (a2 a3 a4 : (⟨1, ![128]⟩ : Shape).Idx → EReal)
    (a5 : (⟨2, ![128, 64]⟩ : Shape).Idx → EReal) (a6 : (⟨1, ![64]⟩ : Shape).Idx → EReal)
    (a7 : (⟨3, ![4, 512, 64]⟩ : Shape).Idx → EReal) (a8 : (⟨2, ![64, 128]⟩ : Shape).Idx → EReal)
    (a9 a10 a11 : (⟨1, ![128]⟩ : Shape).Idx → EReal) (a12 : (⟨2, ![128, 14]⟩ : Shape).Idx → EReal)
    (a13 : (⟨1, ![14]⟩ : Shape).Idx → EReal) : Weights where
  ew1 a j := a1 (ix2 a j)
  eb1 j := a2 (ix1 j)
  eg j := a3 (ix1 j)
  ebe j := a4 (ix1 j)
  ew2 a j := a5 (ix2 a j)
  eb2 j := a6 (ix1 j)
  cb q k a := a7 (ix3 q k a)
  dw1 a j := a8 (ix2 a j)
  db1 j := a9 (ix1 j)
  dg j := a10 (ix1 j)
  dbe j := a11 (ix1 j)
  dw2 a j := a12 (ix2 a j)
  db2 j := a13 (ix1 j)

variable (w : Weights) (x : (⟨3, ![16, 2048, 14]⟩ : Shape).Idx → EReal)

/-- The row of `x` at batch `b`, position `t`. -/
def rowAt (b : Fin 16) (t : Fin 2048) : Fin 14 → EReal := fun a => x (ix3 b t a)

/-- The reconstruction and the codes. -/
def recA : (⟨3, ![16, 2048, 14]⟩ : Shape).Idx → EReal := fun j => recon w (rowAt x (j 0) (j 1)) (j 2)
def idxA : (⟨3, ![16, 2048, 4]⟩ : Shape).Idx → BitVec 32 := fun j => BitVec.ofNat 32 (codes w (rowAt x (j 0) (j 1)) (j 2))

/-- Level `q`'s loss: a quarter of the mean squared error; the four are summed. -/
def loss (q : Fin 4) : EReal :=
  Ideal.ofBits .f32 0x3E800000#32 * Ideal.div (∑ b, ∑ t, errs w (rowAt x b t) q) (Ideal.ofBits .f32 0x4A000000#32)
def commitA : EReal := 0 + loss w x 0 + loss w x 1 + loss w x 2 + loss w x 3

/-- How often each code is level 0's, and the perplexity of these frequencies. -/
def count (k : Fin 512) : EReal := ∑ b, ∑ t, if k = codes w (rowAt x b t) 0 then (1 : EReal) else 0
def freq (k : Fin 512) : EReal := Ideal.div (count w x k) (Ideal.ofBits .f32 0x47000000#32)
def perpA : EReal := Ideal.exp (-(∑ k, freq w x k * Ideal.log (freq w x k + Ideal.ofBits .f32 0x2EDBE6FF#32)))

/-! ## Rows counted through, 512 at a time -/

/-- Row `n` of all 32768, when there is one. -/
def nth (n : ℕ) : Fin 14 → EReal :=
  rowAt x ⟨n / 2048 % 16, Nat.mod_lt _ (by norm_num)⟩ ⟨n % 2048, Nat.mod_lt _ (by norm_num)⟩

theorem nth_eq (b : Fin 16) (t : Fin 2048) : nth x (2048 * b + t) = rowAt x b t := by
  unfold nth
  congr 1 <;> apply Fin.ext <;> simp only <;> omega

/-- A sum over `m` blocks of `n` is a sum over all. -/
theorem sum_blocks (m n : ℕ) (f : ℕ → EReal) : ∑ a : Fin m, ∑ b : Fin n, f (n * a + b) = ∑ k ∈ Finset.range (m * n), f k := by
  rw [← Fin.sum_univ_eq_sum_range, ← finProdFinEquiv.sum_comp, Fintype.sum_prod_type]
  refine Finset.sum_congr rfl fun a _ => Finset.sum_congr rfl fun b _ => ?_
  rw [finProdFinEquiv_apply_val, add_comm]

theorem sum_rows (f : (Fin 14 → EReal) → EReal) :
    ∑ t : Fin 64, ∑ i : Fin 512, f (nth x (512 * t + i)) = ∑ b, ∑ t, f (rowAt x b t) := by
  rw [sum_blocks 64 512 fun n => f (nth x n), show 64 * 512 = 16 * 2048 from rfl, ← sum_blocks 16 2048 fun n => f (nth x n)]
  simp only [nth_eq]

/-- A share of the squared errors, taken block by block, is the loss. -/
theorem commit_blocks :
    ∑ t : Fin 64, Ideal.ofBits .f32 0x34000000#32 * (∑ q, ∑ i : Fin 512, errs w (nth x (512 * t + i)) q) = commitA w x := by
  have hn : ∀ (s : ℕ) (q : Fin 4), (0 : EReal) ≤ ∑ i : Fin 512, errs w (nth x (512 * s + i)) q := fun s q =>
    Finset.sum_nonneg fun i _ => err_nonneg _ _
  have hr : ∀ {n : ℕ} (c : ℝ) (f : Fin n → EReal), (∀ k, 0 ≤ f k) → ∑ k, (c : EReal) * f k = c * ∑ k, f k := by
    intro n c f hf
    induction n with
    | zero => simp
    | succ n ih =>
      rw [Fin.sum_univ_castSucc, Fin.sum_univ_castSucc, ih _ fun k => hf _,
        EReal.left_distrib_of_nonneg (Finset.sum_nonneg fun k _ => hf _) (hf _)]
  have hl : ∀ q, loss w x q = ((1 / 8388608 : ℝ) : EReal) * ∑ t : Fin 64, ∑ i : Fin 512, errs w (nth x (512 * t + i)) q := fun q => by
    unfold loss
    rw [← sum_rows x fun r => errs w r q, quarter_eq, count_eq, Ideal.div_coe (by norm_num), mul_comm (∑ _, _) _, ← mul_assoc]
    congr 1
    rw [← EReal.coe_mul]; norm_num
  rw [share_eq, hr _ _ fun t => Finset.sum_nonneg fun q _ => hn t q, Finset.sum_comm, ← hr _ (fun q => ∑ t : Fin 64, ∑ i : Fin 512, errs w (nth x (512 * t + i)) q)
      fun q => Finset.sum_nonneg fun t _ => hn t q]
  unfold commitA
  rw [Fin.sum_univ_four, zero_add]
  simp only [hl]

theorem count_blocks (k : Fin 512) :
    ∑ t : Fin 64, ∑ i : Fin 512, (if k = codes w (nth x (512 * t + i)) 0 then (1 : EReal) else 0) = count w x k :=
  sum_rows x fun r => if k = codes w r 0 then (1 : EReal) else 0

end Cert.Whole

end
-- ==== Proof.Held.lean ====
/-
  What the kernel's windows hold at a grid step: 512 rows of `x`, and the weights; the codebooks as their norms, their
  transposes, and the three parts each entry is split into.
-/
module

public import proofs.«01_k».proof.Proof.Cases
public import proofs.«01_k».proof.Proof.Whole
public import Idealize.ShloMosaic.Lib.Claim
public import Idealize.ShloMosaic.Lib.Pipeline.ValueKit.Point

@[expose] public section

set_option maxRecDepth 16384

noncomputable section

namespace Cert.Held

open Idealize.ShloMosaic Idealize.ShloMosaic.TcCoe Idealize.SL.Sem Cert.KernelIdeal Cert.KernelIdeal.Gen Cert.Block Cert.Whole
  Cert.Rows Cert.Level Cert.Dense

attribute [local instance] Cert.KernelIdeal.Gen.facts

/-! ## The slices of the codebooks' arrays -/

section
variable (x0 : Vec Ideal S512x14 .f32) (x1 : Vec Ideal S14x128 .bf16) (x2 : Vec Ideal S1x128 .f32) (x3 : Vec Ideal S1x128 .f32) (x4 : Vec Ideal S1x128 .f32) (x5 : Vec Ideal S128x64 .bf16) (x6 : Vec Ideal S1x64 .f32) (x7 : Vec Ideal S4x512 .f32) (x8 : Vec Ideal S4x64x512 .bf16) (x9 : Vec Ideal S4x192x512 .bf16) (x10 : Vec Ideal S64x128 .bf16) (x11 : Vec Ideal S1x128 .f32) (x12 : Vec Ideal S1x128 .f32) (x13 : Vec Ideal S1x128 .f32) (x14 : Vec Ideal S128x14 .bf16) (x15 : Vec Ideal S1x14 .f32)

theorem slice_n (q : Fin 4) (k : Fin 512) : (Ins.ins x0 x1 x2 x3 x4 x5 x6 x7 x8 x9 x10 x11 x12 x13 x14 x15).n q (ix2 0 k) = x7 (ix2 q k) := by
  fin_cases q <;> exact congrArg x7 (by funext a; refine Fin.ext ?_; rw [Rect.idx_unit_val]; fin_cases a <;> simp [ix2])
theorem slice_ct (q : Fin 4) (a : Fin 64) (k : Fin 512) : (Ins.ins x0 x1 x2 x3 x4 x5 x6 x7 x8 x9 x10 x11 x12 x13 x14 x15).ct q (ix3 0 a k) = x8 (ix3 q a k) := by
  fin_cases q <;> exact congrArg x8 (by funext a; refine Fin.ext ?_; rw [Rect.idx_unit_val]; fin_cases a <;> simp [ix3])
theorem slice_p (q : Fin 4) (a : Fin 192) (k : Fin 512) : (Ins.ins x0 x1 x2 x3 x4 x5 x6 x7 x8 x9 x10 x11 x12 x13 x14 x15).p q (ix3 0 a k) = x9 (ix3 q a k) := by
  fin_cases q <;> exact congrArg x9 (by funext a; refine Fin.ext ?_; rw [Rect.idx_unit_val]; fin_cases a <;> simp [ix3])

/-- A level's slices hold its codebook. -/
theorem level_of (q : Fin 4) (cb : Fin 512 → Fin 64 → EReal) (hn : ∀ k, (x7 (ix2 q k) : EReal) = ∑ a, cb k a * cb k a)
    (hc : ∀ a k, (x8 (ix3 q a k) : EReal) = cb k a)
    (hp : ∀ (a : Fin 64) k, (x9 (ix3 q ⟨a, by omega⟩ k) : EReal) + x9 (ix3 q ⟨64 + a, by omega⟩ k) + x9 (ix3 q ⟨128 + a, by omega⟩ k) = cb k a) :
    Holds cb (k0_pay15 ((Ins.ins x0 x1 x2 x3 x4 x5 x6 x7 x8 x9 x10 x11 x12 x13 x14 x15).n q)) (k0_pay16 ((Ins.ins x0 x1 x2 x3 x4 x5 x6 x7 x8 x9 x10 x11 x12 x13 x14 x15).ct q)) ((Ins.ins x0 x1 x2 x3 x4 x5 x6 x7 x8 x9 x10 x11 x12 x13 x14 x15).p q) where
  norms k := by
    rw [← hn, ← slice_n x0 x1 x2 x3 x4 x5 x6 x7 x8 x9 x10 x11 x12 x13 x14 x15]
    generalize (Ins.ins x0 x1 x2 x3 x4 x5 x6 x7 x8 x9 x10 x11 x12 x13 x14 x15).n q = n
    pointwise [k0_pay15]
  codes a k := by
    rw [← hc, ← slice_ct x0 x1 x2 x3 x4 x5 x6 x7 x8 x9 x10 x11 x12 x13 x14 x15]
    generalize (Ins.ins x0 x1 x2 x3 x4 x5 x6 x7 x8 x9 x10 x11 x12 x13 x14 x15).ct q = ct
    pointwise [k0_pay16]
  parts a k := by
    rw [← hp, slice_p, slice_p, slice_p]
end

/-! ## The arguments -/

variable (m : (ℓ : Loc nD τ sig) → Buf (Elt Ideal) ℓ) (c : Dev nD)

abbrev A0 : S16x2048x14.Idx → EReal := m ((c.tc : Thread nD τ).loc main_arg0)
abbrev A1 : S14x128.Idx → EReal := m ((c.tc : Thread nD τ).loc main_arg1)
abbrev A2 : S128.Idx → EReal := m ((c.tc : Thread nD τ).loc main_arg2)
abbrev A3 : S128.Idx → EReal := m ((c.tc : Thread nD τ).loc main_arg3)
abbrev A4 : S128.Idx → EReal := m ((c.tc : Thread nD τ).loc main_arg4)
abbrev A5 : S128x64.Idx → EReal := m ((c.tc : Thread nD τ).loc main_arg5)
abbrev A6 : S64.Idx → EReal := m ((c.tc : Thread nD τ).loc main_arg6)
abbrev A7 : S4x512x64.Idx → EReal := m ((c.tc : Thread nD τ).loc main_arg7)
abbrev A8 : S64x128.Idx → EReal := m ((c.tc : Thread nD τ).loc main_arg8)
abbrev A9 : S128.Idx → EReal := m ((c.tc : Thread nD τ).loc main_arg9)
abbrev A10 : S128.Idx → EReal := m ((c.tc : Thread nD τ).loc main_arg10)
abbrev A11 : S128.Idx → EReal := m ((c.tc : Thread nD τ).loc main_arg11)
abbrev A12 : S128x14.Idx → EReal := m ((c.tc : Thread nD τ).loc main_arg12)
abbrev A13 : S14.Idx → EReal := m ((c.tc : Thread nD τ).loc main_arg13)

/-- The weights in memory. -/
abbrev wts : Weights := weights (A1 m c) (A2 m c) (A3 m c) (A4 m c) (A5 m c) (A6 m c) (A7 m c) (A8 m c) (A9 m c) (A10 m c) (A11 m c) (A12 m c) (A13 m c)

/-! ## What the host lines before the kernel leave -/

/-- The transposed codebooks, and what is left of them after the first part is taken off. -/
abbrev cT : S4x64x512.Idx → EReal := transpose S4x64x512 [0, 2, 1] (A7 m c) transposes_S4x512x64_S4x64x512_0_2_1
abbrev p1 : S4x64x512.Idx → EReal := subf (F := Ideal) (φ := .f32) (cT m c) (cT m c)

theorem held_x : (V m c main_v0 : S32768x14.Idx → EReal) = shapeCast S32768x14 (A0 m c) shapeCasts_S16x2048x14_S32768x14 := rfl
theorem held_norms : (V m c main_v12 : S4x512.Idx → EReal) = Host.reduceAdd (F := Ideal) (φ := .f32)
    (mulf (F := Ideal) (φ := .f32) (A7 m c) (A7 m c)) (constant (F := Ideal) S_ .f32 0x00000000#32) reducesTo_S4x512x64_S4x512_d2 h_S_ := rfl
theorem held_parts : (V m c main_v13 : S4x192x512.Idx → EReal) = concatenate S4x192x512 1 [⟨S4x64x512, cT m c⟩, ⟨S4x64x512, p1 m c⟩,
    ⟨S4x64x512, (subf (F := Ideal) (φ := .f32) (p1 m c) (p1 m c) : S4x64x512.Idx → EReal)⟩] concatenates_S4x64x512_S4x64x512_S4x64x512_S4x192x512_d1 := rfl

theorem norms_at (q : Fin 4) (k : Fin 512) : (V m c main_v12 : S4x512.Idx → EReal) (ix2 q k) = ∑ a, A7 m c (ix3 q k a) * A7 m c (ix3 q k a) := by
  rw [held_norms]
  pointwise
theorem parts_at0 (q : Fin 4) (a : Fin 64) (k : Fin 512) : (V m c main_v13 : S4x192x512.Idx → EReal) (ix3 q ⟨a, by omega⟩ k) = A7 m c (ix3 q k a) := by
  rw [held_parts]
  pointwise
theorem parts_at1 (q : Fin 4) (a : Fin 64) (k : Fin 512) : (V m c main_v13 : S4x192x512.Idx → EReal) (ix3 q ⟨64 + a, by omega⟩ k)
    = A7 m c (ix3 q k a) - A7 m c (ix3 q k a) := by
  rw [held_parts]
  pointwise
theorem parts_at2 (q : Fin 4) (a : Fin 64) (k : Fin 512) : (V m c main_v13 : S4x192x512.Idx → EReal) (ix3 q ⟨128 + a, by omega⟩ k)
    = (A7 m c (ix3 q k a) - A7 m c (ix3 q k a)) - (A7 m c (ix3 q k a) - A7 m c (ix3 q k a)) := by
  rw [held_parts]
  pointwise
  rw [dif_neg (by omega), dif_neg (by omega)]
  have e : ∀ h, (⟨128 + (a : ℕ) - 64 - 64, h⟩ : Fin 64) = a := fun _ => Fin.ext (by show 128 + (a : ℕ) - 64 - 64 = a; omega)
  simp only [e]

/-! ## The windows' blocks -/

theorem index_x : ∀ t : Fin cfg0.N, win0_0.index t 0 = t.val ∧ win0_0.index t 1 = 0 := by decide +kernel

variable (t : Fin cfg0.N)

theorem blk_x (i : Fin 512) (a : Fin 14) : (iblk m c 0 t : S512x14.Idx → EReal) (ix2 i a) = nth (A0 m c) (512 * t.val + i) a := by
  unfold nth rowAt iblk
  rw [View.read_apply]
  change (V m c main_v0 : S32768x14.Idx → EReal) _ = _
  rw [held_x]
  pointwise
  blk_ext [iblk, index_x t]
theorem blk_1 : (iblk m c 1 t : S14x128.Idx → EReal) = V m c main_v14 := by
  funext j
  unfold iblk
  rw [View.read_apply]
  refine congrArg (V m c main_v14 : S14x128.Idx → EReal) (funext fun a => Fin.ext ?_)
  fin_cases a <;> exact (Nat.zero_add _).trans (Nat.one_mul _)
theorem blk_2 : (iblk m c 2 t : S1x128.Idx → EReal) = V m c main_v15 := by
  funext j
  unfold iblk
  rw [View.read_apply]
  refine congrArg (V m c main_v15 : S1x128.Idx → EReal) (funext fun a => Fin.ext ?_)
  fin_cases a <;> exact (Nat.zero_add _).trans (Nat.one_mul _)
theorem blk_3 : (iblk m c 3 t : S1x128.Idx → EReal) = V m c main_v16 := by
  funext j
  unfold iblk
  rw [View.read_apply]
  refine congrArg (V m c main_v16 : S1x128.Idx → EReal) (funext fun a => Fin.ext ?_)
  fin_cases a <;> exact (Nat.zero_add _).trans (Nat.one_mul _)
theorem blk_4 : (iblk m c 4 t : S1x128.Idx → EReal) = V m c main_v17 := by
  funext j
  unfold iblk
  rw [View.read_apply]
  refine congrArg (V m c main_v17 : S1x128.Idx → EReal) (funext fun a => Fin.ext ?_)
  fin_cases a <;> exact (Nat.zero_add _).trans (Nat.one_mul _)
theorem blk_5 : (iblk m c 5 t : S128x64.Idx → EReal) = V m c main_v18 := by
  funext j
  unfold iblk
  rw [View.read_apply]
  refine congrArg (V m c main_v18 : S128x64.Idx → EReal) (funext fun a => Fin.ext ?_)
  fin_cases a <;> exact (Nat.zero_add _).trans (Nat.one_mul _)
theorem blk_6 : (iblk m c 6 t : S1x64.Idx → EReal) = V m c main_v19 := by
  funext j
  unfold iblk
  rw [View.read_apply]
  refine congrArg (V m c main_v19 : S1x64.Idx → EReal) (funext fun a => Fin.ext ?_)
  fin_cases a <;> exact (Nat.zero_add _).trans (Nat.one_mul _)
theorem blk_7 : (iblk m c 7 t : S4x512.Idx → EReal) = V m c main_v12 := by
  funext j
  unfold iblk
  rw [View.read_apply]
  refine congrArg (V m c main_v12 : S4x512.Idx → EReal) (funext fun a => Fin.ext ?_)
  fin_cases a <;> exact (Nat.zero_add _).trans (Nat.one_mul _)
theorem blk_8 : (iblk m c 8 t : S4x64x512.Idx → EReal) = V m c main_v20 := by
  funext j
  unfold iblk
  rw [View.read_apply]
  refine congrArg (V m c main_v20 : S4x64x512.Idx → EReal) (funext fun a => Fin.ext ?_)
  fin_cases a <;> exact (Nat.zero_add _).trans (Nat.one_mul _)
theorem blk_9 : (iblk m c 9 t : S4x192x512.Idx → EReal) = V m c main_v13 := by
  funext j
  unfold iblk
  rw [View.read_apply]
  refine congrArg (V m c main_v13 : S4x192x512.Idx → EReal) (funext fun a => Fin.ext ?_)
  fin_cases a <;> exact (Nat.zero_add _).trans (Nat.one_mul _)
theorem blk_10 : (iblk m c 10 t : S64x128.Idx → EReal) = V m c main_v21 := by
  funext j
  unfold iblk
  rw [View.read_apply]
  refine congrArg (V m c main_v21 : S64x128.Idx → EReal) (funext fun a => Fin.ext ?_)
  fin_cases a <;> exact (Nat.zero_add _).trans (Nat.one_mul _)
theorem blk_11 : (iblk m c 11 t : S1x128.Idx → EReal) = V m c main_v22 := by
  funext j
  unfold iblk
  rw [View.read_apply]
  refine congrArg (V m c main_v22 : S1x128.Idx → EReal) (funext fun a => Fin.ext ?_)
  fin_cases a <;> exact (Nat.zero_add _).trans (Nat.one_mul _)
theorem blk_12 : (iblk m c 12 t : S1x128.Idx → EReal) = V m c main_v23 := by
  funext j
  unfold iblk
  rw [View.read_apply]
  refine congrArg (V m c main_v23 : S1x128.Idx → EReal) (funext fun a => Fin.ext ?_)
  fin_cases a <;> exact (Nat.zero_add _).trans (Nat.one_mul _)
theorem blk_13 : (iblk m c 13 t : S1x128.Idx → EReal) = V m c main_v24 := by
  funext j
  unfold iblk
  rw [View.read_apply]
  refine congrArg (V m c main_v24 : S1x128.Idx → EReal) (funext fun a => Fin.ext ?_)
  fin_cases a <;> exact (Nat.zero_add _).trans (Nat.one_mul _)
theorem blk_14 : (iblk m c 14 t : S128x14.Idx → EReal) = V m c main_v25 := by
  funext j
  unfold iblk
  rw [View.read_apply]
  refine congrArg (V m c main_v25 : S128x14.Idx → EReal) (funext fun a => Fin.ext ?_)
  fin_cases a <;> exact (Nat.zero_add _).trans (Nat.one_mul _)
theorem blk_15 : (iblk m c 15 t : S1x14.Idx → EReal) = V m c main_v26 := by
  funext j
  unfold iblk
  rw [View.read_apply]
  refine congrArg (V m c main_v26 : S1x14.Idx → EReal) (funext fun a => Fin.ext ?_)
  fin_cases a <;> exact (Nat.zero_add _).trans (Nat.one_mul _)

/-- The inputs of the block at step `t`. -/
abbrev insAt : Ins := Ins.ins (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

theorem row_x (i : Fin 512) : row (insAt m c t).x i = nth (A0 m c) (512 * t.val + i) := funext fun a => blk_x m c t i a

theorem fit_ew1 : mat (insAt m c t).ew1 = (wts m c).ew1 := by
  funext a j
  change (iblk m c 1 t : S14x128.Idx → EReal) (ix2 a j) = A1 m c (ix2 a j)
  rw [blk_1]
  rfl
theorem fit_eb1 : vec (insAt m c t).eb1 = (wts m c).eb1 := by
  funext j
  change (iblk m c 2 t : S1x128.Idx → EReal) (ix2 0 j) = A2 m c (ix1 j)
  rw [blk_2, show (V m c main_v15 : S1x128.Idx → EReal) = shapeCast S1x128 (A2 m c) shapeCasts_S128_S1x128 from rfl]
  pointwise
theorem fit_eg : vec (insAt m c t).eg = (wts m c).eg := by
  funext j
  change (iblk m c 3 t : S1x128.Idx → EReal) (ix2 0 j) = A3 m c (ix1 j)
  rw [blk_3, show (V m c main_v16 : S1x128.Idx → EReal) = shapeCast S1x128 (A3 m c) shapeCasts_S128_S1x128 from rfl]
  pointwise
theorem fit_ebe : vec (insAt m c t).ebe = (wts m c).ebe := by
  funext j
  change (iblk m c 4 t : S1x128.Idx → EReal) (ix2 0 j) = A4 m c (ix1 j)
  rw [blk_4, show (V m c main_v17 : S1x128.Idx → EReal) = shapeCast S1x128 (A4 m c) shapeCasts_S128_S1x128 from rfl]
  pointwise
theorem fit_ew2 : mat (insAt m c t).ew2 = (wts m c).ew2 := by
  funext a j
  change (iblk m c 5 t : S128x64.Idx → EReal) (ix2 a j) = A5 m c (ix2 a j)
  rw [blk_5]
  rfl
theorem fit_eb2 : vec (insAt m c t).eb2 = (wts m c).eb2 := by
  funext j
  change (iblk m c 6 t : S1x64.Idx → EReal) (ix2 0 j) = A6 m c (ix1 j)
  rw [blk_6, show (V m c main_v19 : S1x64.Idx → EReal) = shapeCast S1x64 (A6 m c) shapeCasts_S64_S1x64 from rfl]
  pointwise
theorem fit_dw1 : mat (insAt m c t).dw1 = (wts m c).dw1 := by
  funext a j
  change (iblk m c 10 t : S64x128.Idx → EReal) (ix2 a j) = A8 m c (ix2 a j)
  rw [blk_10]
  rfl
theorem fit_db1 : vec (insAt m c t).db1 = (wts m c).db1 := by
  funext j
  change (iblk m c 11 t : S1x128.Idx → EReal) (ix2 0 j) = A9 m c (ix1 j)
  rw [blk_11, show (V m c main_v22 : S1x128.Idx → EReal) = shapeCast S1x128 (A9 m c) shapeCasts_S128_S1x128 from rfl]
  pointwise
theorem fit_dg : vec (insAt m c t).dg = (wts m c).dg := by
  funext j
  change (iblk m c 12 t : S1x128.Idx → EReal) (ix2 0 j) = A10 m c (ix1 j)
  rw [blk_12, show (V m c main_v23 : S1x128.Idx → EReal) = shapeCast S1x128 (A10 m c) shapeCasts_S128_S1x128 from rfl]
  pointwise
theorem fit_dbe : vec (insAt m c t).dbe = (wts m c).dbe := by
  funext j
  change (iblk m c 13 t : S1x128.Idx → EReal) (ix2 0 j) = A11 m c (ix1 j)
  rw [blk_13, show (V m c main_v24 : S1x128.Idx → EReal) = shapeCast S1x128 (A11 m c) shapeCasts_S128_S1x128 from rfl]
  pointwise
theorem fit_dw2 : mat (insAt m c t).dw2 = (wts m c).dw2 := by
  funext a j
  change (iblk m c 14 t : S128x14.Idx → EReal) (ix2 a j) = A12 m c (ix2 a j)
  rw [blk_14]
  rfl
theorem fit_db2 : vec (insAt m c t).db2 = (wts m c).db2 := by
  funext j
  change (iblk m c 15 t : S1x14.Idx → EReal) (ix2 0 j) = A13 m c (ix1 j)
  rw [blk_15, show (V m c main_v26 : S1x14.Idx → EReal) = shapeCast S1x14 (A13 m c) shapeCasts_S14_S1x14 from rfl]
  pointwise

/-- The block's inputs are the weights in memory, if no code entry is infinite. -/
theorem fits (h : ∀ j, A7 m c j < ⊤) : Fits (insAt m c t) (wts m c) where
  ew1 := fit_ew1 m c t
  eb1 := fit_eb1 m c t
  eg := fit_eg m c t
  ebe := fit_ebe m c t
  ew2 := fit_ew2 m c t
  eb2 := fit_eb2 m c t
  dw1 := fit_dw1 m c t
  db1 := fit_db1 m c t
  dg := fit_dg m c t
  dbe := fit_dbe m c t
  dw2 := fit_dw2 m c t
  db2 := fit_db2 m c t
  level q := level_of _ _ _ _ _ _ _ _ _ _ _ _ _ _ _ _ q _
    (fun k => by rw [blk_7, norms_at]; rfl)
    (fun a k => by rw [blk_8, show (V m c main_v20 : S4x64x512.Idx → EReal) = cT m c from rfl]; pointwise; rfl)
    (fun a k => by rw [blk_9, parts_at0, parts_at1, parts_at2]; exact parts_sum _ (h _))

end Cert.Held

end
-- ==== Proof.Outs.lean ====
/-
  What the kernel has in its windows after each grid step: the step's 512 rows reconstructed, their codes, and the loss and
  the counts of all rows so far; after the last step also the perplexity.
-/
module

public import proofs.«01_k».proof.Proof.Held

@[expose] public section

set_option maxRecDepth 16384

noncomputable section

namespace Cert.Outs

open Idealize.ShloMosaic Idealize.ShloMosaic.TcCoe Idealize.SL.Sem Cert.KernelIdeal Cert.KernelIdeal.Gen Cert.Block Cert.Whole
  Cert.Rows Cert.Level Cert.Dense Cert.Held

attribute [local instance] Cert.KernelIdeal.Gen.facts

variable (m : (ℓ : Loc nD τ sig) → Buf (Elt Ideal) ℓ) (c : Dev nD)

theorem points (t : Fin cfg0.N) : t.val < 64 := lt_of_lt_of_eq t.isLt (show cfg0.N = 64 from N_0)

/-- A step's rows, reconstructed, and their codes. -/
theorem rec_out (t : Fin cfg0.N) : (outsAt0 m c t.val t.isLt).1 = recBlk (insAt m c t) := by
  by_cases h0 : t.val % 64 = 0
  · have h1 : ¬t.val % 64 = 63 := by omega
    rw [outsAt0_A m c t h0 h1]
    dsimp only
    rw [Cases.recA]
  · by_cases h1 : t.val % 64 = 63
    · rw [outsAt0_C m c t h0 h1]
      dsimp only
      rw [Cases.recC]
    · rw [outsAt0_B m c t h0 h1]
      dsimp only
      rw [Cases.recB]

theorem idx_out (t : Fin cfg0.N) : (outsAt0 m c t.val t.isLt).2.1 = Ins.idxBlk (insAt m c t) := by
  by_cases h0 : t.val % 64 = 0
  · have h1 : ¬t.val % 64 = 63 := by omega
    rw [outsAt0_A m c t h0 h1]
    dsimp only
    rw [Cases.idxA]
  · by_cases h1 : t.val % 64 = 63
    · rw [outsAt0_C m c t h0 h1]
      dsimp only
      rw [Cases.idxC]
    · rw [outsAt0_B m c t h0 h1]
      dsimp only
      rw [Cases.idxB]

/-- The loss and the counts: zero before the first step, and each step adds to what the step before left. -/
theorem commit_first (t : Fin cfg0.N) (h0 : t.val = 0) :
    (outsAt0 m c t.val t.isLt).2.2.1 = commitBlk (insAt m c t) (k0_pay3 (F := Ideal)) := by
  have := points t
  rw [outsAt0_A m c t (by omega) (by omega)]
  dsimp only
  rw [Cases.commitA]

theorem hist_first (t : Fin cfg0.N) (h0 : t.val = 0) :
    (outsAt0 m c t.val t.isLt).2.2.2.1 = histBlk (insAt m c t) (k0_pay4 (F := Ideal)) := by
  have := points t
  rw [outsAt0_A m c t (by omega) (by omega)]
  dsimp only
  rw [Cases.histA]

theorem commit_next (t : Fin cfg0.N) (h0 : ¬t.val % 64 = 0) : (outsAt0 m c t.val t.isLt).2.2.1
    = commitBlk (insAt m c t) (outsAt0 m c (t.val - 1) (Nat.lt_of_le_of_lt (Nat.sub_le t.val 1) t.isLt)).2.2.1 := by
  by_cases h1 : t.val % 64 = 63
  · rw [outsAt0_C m c t h0 h1]
    dsimp only
    rw [Cases.commitC]
  · rw [outsAt0_B m c t h0 h1]
    dsimp only
    rw [Cases.commitB]

theorem hist_next (t : Fin cfg0.N) (h0 : ¬t.val % 64 = 0) : (outsAt0 m c t.val t.isLt).2.2.2.1
    = histBlk (insAt m c t) (outsAt0 m c (t.val - 1) (Nat.lt_of_le_of_lt (Nat.sub_le t.val 1) t.isLt)).2.2.2.1 := by
  by_cases h1 : t.val % 64 = 63
  · rw [outsAt0_C m c t h0 h1]
    dsimp only
    rw [Cases.histC]
  · rw [outsAt0_B m c t h0 h1]
    dsimp only
    rw [Cases.histB]

theorem perp_last (t : Fin cfg0.N) (h1 : t.val % 64 = 63) :
    (outsAt0 m c t.val t.isLt).2.2.2.2 = k0_pay2 (outsAt0 m c t.val t.isLt).2.2.2.1 := by
  have h0 : ¬t.val % 64 = 0 := by omega
  rw [outsAt0_C m c t h0 h1]
  dsimp only
  rw [Cases.perpC, Cases.histC]

section
variable (h : ∀ j, A7 m c j < ⊤)
include h

/-- After step `n`: the loss of the rows so far, -/
theorem commit_sum (n : ℕ) (hn : n < cfg0.N) : (outsAt0 m c n hn).2.2.1 (ix2 0 0)
    = ∑ s ∈ Finset.range (n + 1), Ideal.ofBits .f32 0x34000000#32
        * (∑ q, ∑ i : Fin 512, errs (wts m c) (nth (A0 m c) (512 * s + i)) q) := by
  induction n with
  | zero =>
    rw [commit_first m c ⟨0, hn⟩ rfl, commit_at (fits m c _ h), Finset.sum_range_one]
    simp only [row_x]
    rw [show (k0_pay3 (F := Ideal)) (ix2 0 0) = (0 : EReal) by pointwise [k0_pay3], zero_add]
  | succ n ih =>
    have hp := points ⟨n + 1, hn⟩
    dsimp only at hp
    rw [show (outsAt0 m c (n + 1) hn).2.2.1 = commitBlk (insAt m c ⟨n + 1, hn⟩) (outsAt0 m c n (Nat.lt_of_succ_lt hn)).2.2.1 from
      commit_next m c ⟨n + 1, hn⟩ (by dsimp only; omega), commit_at (fits m c _ h), ih, Finset.sum_range_succ _ (n + 1)]
    simp only [row_x]

/-- and how often each code was level 0's. -/
theorem hist_sum (k : Fin 512) (n : ℕ) (hn : n < cfg0.N) : (outsAt0 m c n hn).2.2.2.1 (ix2 0 k)
    = ∑ s ∈ Finset.range (n + 1), ∑ i : Fin 512,
        if k = codes (wts m c) (nth (A0 m c) (512 * s + i)) 0 then (1 : EReal) else 0 := by
  induction n with
  | zero =>
    rw [hist_first m c ⟨0, hn⟩ rfl, hist_at (fits m c _ h), Finset.sum_range_one]
    simp only [row_x]
    rw [show (k0_pay4 (F := Ideal)) (ix2 0 k) = (0 : EReal) by pointwise [k0_pay4], zero_add]
  | succ n ih =>
    have hp := points ⟨n + 1, hn⟩
    dsimp only at hp
    rw [show (outsAt0 m c (n + 1) hn).2.2.2.1 = histBlk (insAt m c ⟨n + 1, hn⟩) (outsAt0 m c n (Nat.lt_of_succ_lt hn)).2.2.2.1 from
      hist_next m c ⟨n + 1, hn⟩ (by dsimp only; omega), hist_at (fits m c _ h), ih, Finset.sum_range_succ _ (n + 1)]
    simp only [row_x]

/-- After the last step these are the totals, -/
theorem commit_last (t : Fin cfg0.N) (h1 : t.val % 64 = 63) :
    (outsAt0 m c t.val t.isLt).2.2.1 (ix2 0 0) = commitA (wts m c) (A0 m c) := by
  have := points t
  rw [commit_sum m c h t.val t.isLt, show t.val + 1 = 64 by omega, ← commit_blocks, ← Fin.sum_univ_eq_sum_range]

theorem hist_last (t : Fin cfg0.N) (h1 : t.val % 64 = 63) (k : Fin 512) :
    (outsAt0 m c t.val t.isLt).2.2.2.1 (ix2 0 k) = count (wts m c) (A0 m c) k := by
  have := points t
  rw [hist_sum m c h k t.val t.isLt, show t.val + 1 = 64 by omega, ← count_blocks,
    ← Fin.sum_univ_eq_sum_range fun s => ∑ i : Fin 512, if k = codes (wts m c) (nth (A0 m c) (512 * s + i)) 0 then (1 : EReal) else 0]

omit h in
/-- and the perplexity that of the counts. -/
theorem perp_at (H : Vec Ideal S1x512 .f32) :
    k0_pay2 H (ix2 0 0) = Ideal.exp (-(∑ k : Fin 512, Ideal.div (H (ix2 0 k)) (Ideal.ofBits .f32 0x47000000#32)
      * Ideal.log (Ideal.div (H (ix2 0 k)) (Ideal.ofBits .f32 0x47000000#32) + Ideal.ofBits .f32 0x2EDBE6FF#32))) := by
  pointwise [k0_pay2]
  simp only [zero_add, sub_eq_add_neg, Finset.univ_unique, Finset.sum_singleton]

theorem perp_total (t : Fin cfg0.N) (h1 : t.val % 64 = 63) :
    (outsAt0 m c t.val t.isLt).2.2.2.2 (ix2 0 0) = perpA (wts m c) (A0 m c) := by
  rw [perp_last m c t h1, perp_at]
  simp only [hist_last m c h t h1]
  rfl
end

end Cert.Outs
-- ==== Proof.Arrays.lean ====
/-
  The kernel's arrays at the end of its run: the reconstruction and the codes of all 32768 rows, the loss, the perplexity.
-/
module

public import proofs.«01_k».proof.Proof.Outs

@[expose] public section

set_option maxRecDepth 16384

noncomputable section

namespace Cert.Arrays

open Idealize.ShloMosaic Idealize.ShloMosaic.TcCoe Idealize.SL.Sem Cert.KernelIdeal Cert.KernelIdeal.Gen Cert.Block Cert.Whole
  Cert.Rows Cert.Level Cert.Dense Cert.Held Cert.Outs

attribute [local instance] Cert.KernelIdeal.Gen.facts

variable (m : (ℓ : Loc nD τ sig) → Buf (Elt Ideal) ℓ) (c : Dev nD)

/-- Where a step's block lies: at its 512 rows; the loss and the perplexity are one block. -/
theorem place_16 : ∀ t : Fin cfg0.N, win0_16.index t 0 = t.val ∧ win0_16.index t 1 = 0 := by decide +kernel
theorem place_17 : ∀ t : Fin cfg0.N, win0_17.index t 0 = t.val ∧ win0_17.index t 1 = 0 := by decide +kernel

theorem one (y : S1x1.Idx) : y = ix2 0 0 := funext fun a => by fin_cases a <;> exact Subsingleton.elim (α := Fin 1) _ _

section
variable (h : ∀ j, A7 m c j < ⊤)
include h

/-- A step's rows, and its codes, at one index. -/
theorem rec_at (t : Fin cfg0.N) (y : S512x14.Idx) :
    recBlk (insAt m c t) y = recon (wts m c) (nth (A0 m c) (512 * t.val + (y 0).val)) (y 1) := by
  have e : ∀ (i : Fin 512) (a : Fin 14), recBlk (insAt m c t) (ix2 i a)
      = recon (wts m c) (nth (A0 m c) (512 * t.val + i.val)) a := fun i a => by
    rw [← row_x]
    exact congrFun (row_rec (fits m c t h) i) a
  exact (congrArg _ (funext fun a => by fin_cases a <;> rfl)).trans (e (y 0) (y 1))

theorem idx_at (t : Fin cfg0.N) (y : S512x4.Idx) :
    Ins.idxBlk (insAt m c t) y = BitVec.ofNat 32 (codes (wts m c) (nth (A0 m c) (512 * t.val + (y 0).val)) (y 1)) := by
  have e : ∀ (i : Fin 512) (q : Fin 4), Ins.idxBlk (insAt m c t) (ix2 i q)
      = BitVec.ofNat 32 (codes (wts m c) (nth (A0 m c) (512 * t.val + i.val)) q) := fun i q => by
    rw [← row_x]
    fin_cases q
    · exact row_idx0 (fits m c t h) i
    · exact row_idx1 (fits m c t h) i
    · exact row_idx2 (fits m c t h) i
    · exact row_idx3 (fits m c t h) i
  exact (congrArg _ (funext fun a => by fin_cases a <;> rfl)).trans (e (y 0) (y 1))

theorem final_16 : (dats m 0 c).arrAt 16 (cfgs 0).N
    = fun j : S32768x14.Idx => recon (wts m c) (nth (A0 m c) (j 0)) (j 1) := by
  refine (dats m 0 c).arrAt_eq_of_covers 16 _ (by decide +kernel) fun t _ y => ?_
  blk_simp
  rw [after0_16, rec_out]
  refine (rec_at m c h t y).trans ?_
  rw [show win0_16.index t 0 * 512 + (y 0).val = 512 * t.val + (y 0).val by rw [(place_16 t).1, Nat.mul_comm]]
  refine congrArg (recon _ _) (Fin.ext ?_)
  blk_simp
  rw [(place_16 t).2]
  omega

theorem final_17 : (dats m 0 c).arrAt 17 (cfgs 0).N
    = fun j : S32768x4.Idx => BitVec.ofNat 32 (codes (wts m c) (nth (A0 m c) (j 0)) (j 1)) := by
  refine (dats m 0 c).arrAt_eq_of_covers 17 _ (by decide +kernel) fun t _ y => ?_
  blk_simp
  rw [after0_17, idx_out]
  refine (idx_at m c h t y).trans ?_
  rw [show win0_17.index t 0 * 512 + (y 0).val = 512 * t.val + (y 0).val by rw [(place_17 t).1, Nat.mul_comm]]
  refine congrArg (fun q => BitVec.ofNat 32 (codes (wts m c) _ q)) (Fin.ext ?_)
  blk_simp
  rw [(place_17 t).2]
  omega

theorem final_18 : (dats m 0 c).arrAt 18 (cfgs 0).N = fun _ : S1x1.Idx => commitA (wts m c) (A0 m c) := by
  refine (dats m 0 c).arrAt_eq_of_covers 18 _ (by decide +kernel) fun t hf y => ?_
  blk_simp
  rw [after0_18]
  exact (congrArg _ (one y)).trans (commit_last m c h t ((flush0_18 t).mp hf))

theorem final_20 : (dats m 0 c).arrAt 20 (cfgs 0).N = fun _ : S1x1.Idx => perpA (wts m c) (A0 m c) := by
  refine (dats m 0 c).arrAt_eq_of_covers 20 _ (by decide +kernel) fun t hf y => ?_
  blk_simp
  rw [after0_20]
  exact (congrArg _ (one y)).trans (perp_total m c h t ((flush0_20 t).mp hf))
end

end Cert.Arrays
-- ==== Proof.KernelRun.lean ====
/-
  The kernel's run with its four results: the arrays of the steps, reshaped.
-/
module

public import proofs.«01_k».proof.Proof.Arrays

@[expose] public section

set_option maxRecDepth 16384

noncomputable section

namespace Cert.KernelRun

open Idealize.ShloMosaic Idealize.ShloMosaic.TcCoe Idealize.SL.Sem Cert.KernelIdeal Cert.KernelIdeal.Gen Cert.Block Cert.Whole
  Cert.Rows Cert.Level Cert.Dense Cert.Held

attribute [local instance] Cert.KernelIdeal.Gen.facts

variable (m : (ℓ : Loc nD τ sig) → Buf (Elt Ideal) ℓ) (c : Dev nD)

theorem inj : Function.Injective (Pipeline.arrRef (cfgs 0).spec) := by decide +kernel

/-- What the buffers hold when the steps are done. -/
abbrev left : Valuation τ sig (Elt Ideal) :=
  Pipeline.withArrays (cfgs 0).spec c (V0 m c) fun w => (dats m 0 c).arrAt w (cfgs 0).N

section
variable (h : ∀ j, A7 m c j < ⊤)
include h

theorem left_16 : left m c (Proc.devRef .tc main_v27_0)
    = fun j : S32768x14.Idx => recon (wts m c) (nth (A0 m c) (j 0)) (j 1) :=
  (Pipeline.withArrays_arr (cfgs 0).spec inj c _ _ 16).trans (Arrays.final_16 m c h)
theorem left_17 : left m c (Proc.devRef .tc main_v27_1)
    = fun j : S32768x4.Idx => BitVec.ofNat 32 (codes (wts m c) (nth (A0 m c) (j 0)) (j 1)) :=
  (Pipeline.withArrays_arr (cfgs 0).spec inj c _ _ 17).trans (Arrays.final_17 m c h)
theorem left_18 : left m c (Proc.devRef .tc main_v27_2) = fun _ : S1x1.Idx => Whole.commitA (wts m c) (A0 m c) :=
  (Pipeline.withArrays_arr (cfgs 0).spec inj c _ _ 18).trans (Arrays.final_18 m c h)
theorem left_20 : left m c (Proc.devRef .tc main_v27_4) = fun _ : S1x1.Idx => Whole.perpA (wts m c) (A0 m c) :=
  (Pipeline.withArrays_arr (cfgs 0).spec inj c _ _ 20).trans (Arrays.final_20 m c h)

theorem tail_28 : Pipeline.afterTail₀ cfgs (dats m) 0 (V0 m) [hostOps1] c main_v28 = Whole.recA (wts m c) (A0 m c) := by
  change shapeCast S16x2048x14 (left m c (Proc.devRef .tc main_v27_0) : S32768x14.Idx → EReal) shapeCasts_S32768x14_S16x2048x14 = _
  rw [left_16 m c h]
  funext j
  pointwise [Whole.recA]
  exact congrArg (fun r => recon (wts m c) r (j 2))
    ((congrArg (nth (A0 m c)) (by rw [Nat.mul_comm])).trans (nth_eq (A0 m c) (j 0) (j 1)))
theorem tail_29 : Pipeline.afterTail₀ cfgs (dats m) 0 (V0 m) [hostOps1] c main_v29 = Whole.idxA (wts m c) (A0 m c) := by
  change shapeCast S16x2048x4 (left m c (Proc.devRef .tc main_v27_1) : S32768x4.Idx → BitVec 32) shapeCasts_S32768x4_S16x2048x4 = _
  rw [left_17 m c h]
  funext j
  pointwise [Whole.idxA]
  exact congrArg (fun r => BitVec.ofNat 32 (codes (wts m c) r (j 2)))
    ((congrArg (nth (A0 m c)) (by rw [Nat.mul_comm])).trans (nth_eq (A0 m c) (j 0) (j 1)))
theorem tail_30 : Pipeline.afterTail₀ cfgs (dats m) 0 (V0 m) [hostOps1] c main_v30
    = fun _ : S_.Idx => Whole.commitA (wts m c) (A0 m c) := by
  change shapeCast S_ (left m c (Proc.devRef .tc main_v27_2) : S1x1.Idx → EReal) shapeCasts_S1x1_S_ = _
  rw [left_18 m c h]
  rfl
theorem tail_31 : Pipeline.afterTail₀ cfgs (dats m) 0 (V0 m) [hostOps1] c main_v31
    = fun _ : S_.Idx => Whole.perpA (wts m c) (A0 m c) := by
  change shapeCast S_ (left m c (Proc.devRef .tc main_v27_4) : S1x1.Idx → EReal) shapeCasts_S1x1_S_ = _
  rw [left_20 m c h]
  rfl
end

/-- The run ends with the four results. -/
theorem run (g : Dev nD → PrngReg) (h : ∀ c j, A7 m c j < ⊤) :
    θ_run defs (onTc (τ := τ) (main (F := Ideal))) ⟨m, fun _ => 0, g⟩ fun r => ∀ c : Dev nD,
      r.2.mem ((c.tc : Thread nD τ).loc main_v28) = Whole.recA (wts m c) (A0 m c)
      ∧ r.2.mem ((c.tc : Thread nD τ).loc main_v29) = Whole.idxA (wts m c) (A0 m c)
      ∧ r.2.mem ((c.tc : Thread nD τ).loc main_v30) = (fun _ : S_.Idx => Whole.commitA (wts m c) (A0 m c))
      ∧ r.2.mem ((c.tc : Thread nD τ).loc main_v31) = (fun _ : S_.Idx => Whole.perpA (wts m c) (A0 m c)) :=
  (θ_run defs _ _).mono (fun r hr c =>
    ⟨((hr c).2 main_v28 (by decide +kernel)).trans (tail_28 m c (h c)), ((hr c).2 main_v29 (by decide +kernel)).trans (tail_29 m c (h c)),
      ((hr c).2 main_v30 (by decide +kernel)).trans (tail_30 m c (h c)), ((hr c).2 main_v31 (by decide +kernel)).trans (tail_31 m c (h c))⟩)
    (run_main m g)

end Cert.KernelRun
-- ==== Proof.RefNorm.lean ====
/-
  The reference's layer norm and gelu, at one row.
-/
module

public import proofs.«01_k».proof.Proof.Gen.ReferenceIdeal
public import proofs.«01_k».proof.Proof.Settle
public import proofs.«01_k».proof.Proof.Rows
public import Idealize.ShloMosaic.Lib.Claim
public import Idealize.ShloMosaic.Lib.Pipeline.ValueKit.Point

@[expose] public section

set_option maxRecDepth 16384

noncomputable section

namespace Cert.RefNorm

open Idealize.ShloMosaic Idealize.ShloMosaic.TcCoe Idealize.ShloMosaic.StableHlo Idealize.SL.Sem Cert.ReferenceIdeal Cert.Settle Cert.Rows

attribute [local instance] Cert.ReferenceIdeal.Gen.facts

variable {W : Valuation τ sig (Elt Ideal)}

/-- What a buffer of numbers, and one of words, holds at an index. -/
abbrev fl (W : Valuation τ sig (Elt Ideal)) {S : Shape} (x : TRef sig ⟨S, .f32⟩) (i : S.Idx) : EReal := rd W x i
abbrev wd (W : Valuation τ sig (Elt Ideal)) {S : Shape} (x : TRef sig ⟨S, .i32⟩) (i : S.Idx) : BitVec 32 := rd W x i

/-- The choice between the variance and the mark of an undefined one. -/
theorem where_at {p : TRef sig ⟨S_, .i1⟩} {x : TRef sig ⟨S16x2048x1, .f32⟩} {y : TRef sig ⟨S_, .f32⟩} {φ : fn_where.Bufs}
    (h : Settled W (fn_where.body (F := Ideal) p x y φ)) (hp : rd W p ix0 = 1#1) (b : Fin 16) (t : Fin 2048) :
    fl W φ.v2 (ix3 b t 0) = fl W x (ix3 b t 0) := by
  unfold fn_where.body at h
  replace h := h.cons; obtain ⟨e0, h⟩ := h
  replace h := h.cons; obtain ⟨e1, h⟩ := h
  replace h := h.cons; obtain ⟨e2, h⟩ := h
  rw [fl, rd_ternary e2]
  pointwise
  rw [hp]
  rfl

theorem var_at {x : TRef sig ⟨S16x2048x128, .f32⟩} {c : TRef sig ⟨S_, .i32⟩} {φ : fn_var.Bufs}
    (h : Settled W (fn_var.body (F := Ideal) x c φ)) (hc : rd W c = constantI S_ 32 0#32) (b : Fin 16) (t : Fin 2048) :
    fl W φ.call0.v2 (ix3 b t 0) = var fun k => fl W x (ix3 b t k) := by
  unfold fn_var.body at h
  replace h := h.cons; obtain ⟨cst, h⟩ := h
  replace h := h.cons; obtain ⟨v0, h⟩ := h
  replace h := h.cons; obtain ⟨v1, h⟩ := h
  replace h := h.cons; obtain ⟨cst_0, h⟩ := h
  replace h := h.cons; obtain ⟨v2, h⟩ := h
  replace h := h.cons; obtain ⟨v3, h⟩ := h
  replace h := h.cons; obtain ⟨v4, h⟩ := h
  replace h := h.cons; obtain ⟨v5, h⟩ := h
  replace h := h.cons; obtain ⟨v6, h⟩ := h
  replace h := h.cons; obtain ⟨v7, h⟩ := h
  replace h := h.cons; obtain ⟨cst_1, h⟩ := h
  replace h := h.cons; obtain ⟨v8, h⟩ := h
  replace h := h.cons; obtain ⟨cst_2, h⟩ := h
  replace h := h.cons; obtain ⟨v9, h⟩ := h
  replace h := h.cons; obtain ⟨v10, h⟩ := h
  replace h := h.cons; obtain ⟨v11, h⟩ := h
  replace h := h.cons; obtain ⟨v12, h⟩ := h
  replace h := h.cons; obtain ⟨cst_3, h⟩ := h
  replace h := h.cons; obtain ⟨v13, h⟩ := h
  replace h := h.cons; obtain ⟨cst_4, h⟩ := h
  replace h := h.split ⟨_, by hlo_seq⟩; obtain ⟨hw, -⟩ := h
  have e8 : rd W φ.v8 ix0 = width := by
    rw [rd_binary v8, rd_nullary cst_1, rd_unary v7, hc]
    pointwise
    change width - (((0#32 : BitVec 32).toInt : ℝ) : EReal) = width
    rw [show (0#32 : BitVec 32).toInt = 0 from rfl, Int.cast_zero, EReal.coe_zero, sub_zero]
  have e3 : ∀ (b : Fin 16) (t : Fin 2048), rd W φ.v3 (ix3 b t 0) = mean fun k => fl W x (ix3 b t k) := fun b t => by
    rw [rd_binary v3, rd_unary v2, rd_nullary cst_0, rd_unary v1, rd_binary v0, rd_nullary cst]
    pointwise
    rfl
  refine (where_at hw ?_ b t).trans ?_
  · rw [rd_binary v13, rd_nullary cst_3]
    pointwise
    rw [e8, width_eq, decide_eq_true (by exact_mod_cast (by norm_num : (0 : ℝ) < 128))]
    rfl
  · rw [fl, rd_binary v12, rd_unary v11, rd_unary v10, rd_binary v9, rd_nullary cst_2, rd_binary v6, rd_binary v5, rd_unary v4]
    pointwise
    simp only [e8, e3]
    rfl

/-- A row's layer norm and gelu. -/
theorem norm_gelu_at {x : TRef sig ⟨S16x2048x128, .f32⟩} {g o : TRef sig ⟨S128, .f32⟩} {φ : fn_norm_gelu.Bufs}
    (h : Settled W (fn_norm_gelu.body (F := Ideal) x g o φ)) (b : Fin 16) (t : Fin 2048) (j : Fin 128) :
    fl W φ.v30 (ix3 b t j) = gelu (norm (fun k => fl W x (ix3 b t k)) (fun k => fl W g (ix1 k)) (fun k => fl W o (ix1 k)) j) := by
  unfold fn_norm_gelu.body at h
  replace h := h.cons; obtain ⟨cst, h⟩ := h
  replace h := h.cons; obtain ⟨v0, h⟩ := h
  replace h := h.cons; obtain ⟨v1, h⟩ := h
  replace h := h.cons; obtain ⟨cst_0, h⟩ := h
  replace h := h.cons; obtain ⟨v2, h⟩ := h
  replace h := h.cons; obtain ⟨v3, h⟩ := h
  replace h := h.cons; obtain ⟨c, h⟩ := h
  replace h := h.split ⟨_, by hlo_seq⟩; obtain ⟨hv, h⟩ := h
  replace h := h.cons; obtain ⟨v5, h⟩ := h
  replace h := h.cons; obtain ⟨v6, h⟩ := h
  replace h := h.cons; obtain ⟨cst_1, h⟩ := h
  replace h := h.cons; obtain ⟨v7, h⟩ := h
  replace h := h.cons; obtain ⟨v8, h⟩ := h
  replace h := h.cons; obtain ⟨v9, h⟩ := h
  replace h := h.cons; obtain ⟨v10, h⟩ := h
  replace h := h.cons; obtain ⟨v11, h⟩ := h
  replace h := h.cons; obtain ⟨v12, h⟩ := h
  replace h := h.cons; obtain ⟨v13, h⟩ := h
  replace h := h.cons; obtain ⟨v14, h⟩ := h
  replace h := h.cons; obtain ⟨v15, h⟩ := h
  replace h := h.cons; obtain ⟨v16, h⟩ := h
  replace h := h.cons; obtain ⟨v17, h⟩ := h
  replace h := h.cons; obtain ⟨v18, h⟩ := h
  replace h := h.cons; obtain ⟨v19, h⟩ := h
  replace h := h.cons; obtain ⟨cst_2, h⟩ := h
  replace h := h.cons; obtain ⟨v20, h⟩ := h
  replace h := h.cons; obtain ⟨v21, h⟩ := h
  replace h := h.cons; obtain ⟨v22, h⟩ := h
  replace h := h.cons; obtain ⟨cst_3, h⟩ := h
  replace h := h.cons; obtain ⟨v23, h⟩ := h
  replace h := h.cons; obtain ⟨v24, h⟩ := h
  replace h := h.cons; obtain ⟨v25, h⟩ := h
  replace h := h.cons; obtain ⟨cst_4, h⟩ := h
  replace h := h.cons; obtain ⟨v26, h⟩ := h
  replace h := h.cons; obtain ⟨v27, h⟩ := h
  replace h := h.cons; obtain ⟨cst_5, h⟩ := h
  replace h := h.cons; obtain ⟨v28, h⟩ := h
  replace h := h.cons; obtain ⟨v29, h⟩ := h
  replace h := h.cons; obtain ⟨v30, h⟩ := h
  have e3 : rd W φ.v3 (ix3 b t 0) = mean fun k => fl W x (ix3 b t k) := by
    rw [rd_binary v3, rd_unary v2, rd_nullary cst_0, rd_unary v1, rd_binary v0, rd_nullary cst]
    pointwise
    rfl
  have e4 : rd W φ.call0.call0.v2 (ix3 b t 0) = var fun k => fl W x (ix3 b t k) := var_at hv (rd_nullary c) b t
  have e17 : rd W φ.v17 (ix3 b t j)
      = norm (fun k => fl W x (ix3 b t k)) (fun k => fl W g (ix1 k)) (fun k => fl W o (ix1 k)) j := by
    rw [rd_binary v17, rd_unary v16, rd_unary v15, rd_binary v14, rd_unary v13, rd_unary v12, rd_binary v11, rd_unary v10,
      rd_unary v9, rd_binary v8, rd_unary v7, rd_nullary cst_1, rd_binary v6, rd_unary v5]
    pointwise
    rw [e3, e4]
    rfl
  rw [fl, rd_binary v30, rd_binary v29, rd_unary v28, rd_nullary cst_5, rd_binary v27, rd_unary v26, rd_nullary cst_4,
    rd_unary v25, rd_binary v24, rd_unary v23, rd_nullary cst_3, rd_binary v22, rd_binary v21, rd_unary v20, rd_nullary cst_2,
    rd_binary v19, rd_binary v18]
  pointwise
  rw [e17]
  rfl

end Cert.RefNorm
-- ==== Proof.RefTake.lean ====
/-
  The reference's rows taken from a codebook by index.
-/
module

public import proofs.«01_k».proof.Proof.RefNorm

@[expose] public section

set_option maxRecDepth 16384

noncomputable section

namespace Cert.RefTake

open Idealize.ShloMosaic Idealize.ShloMosaic.TcCoe Idealize.ShloMosaic.StableHlo Idealize.SL.Sem Cert.ReferenceIdeal Cert.Settle Cert.Rows
  Cert.RefNorm

attribute [local instance] Cert.ReferenceIdeal.Gen.facts

/-- A gather of whole rows, at a row whose number is a code's. -/
theorem gather_at (x : S512x64.Idx → EReal) (idx : S16x2048x1.Idx → BitVec 32) (b : Fin 16) (t : Fin 2048) (a : Fin 64) (k : Fin 512)
    (h : (idx (ix3 b t 0)).toInt.toNat = k) :
    Host.gather gather_S512x64_S16x2048x1_S16x2048x64_2_0_n_n_0_2_164 x idx (ix3 b t a) = x (ix2 k a) := by
  unfold Host.gather
  refine congrArg x (funext fun d => Fin.ext ?_)
  change GatherDims.start _ (ix3 b t a) idx d + GatherDims.batchCoord _ (ix3 b t a) d + GatherDims.offCoord _ (ix3 b t a) d = _
  rw [GatherDims.batchCoord_eq_zero _ _ _ List.not_mem_nil]
  fin_cases d
  · rw [GatherDims.offCoord_eq_zero _ _ _ (fun hm => ((GatherDims.mem_sKept _ _).mp hm).1 (List.mem_singleton.mpr rfl))]
    simp only [Nat.add_zero]
    have hm : (0 : Fin 2) ∈ gather_S512x64_S16x2048x1_S16x2048x64_2_0_n_n_0_2_164.startIndexMap := List.mem_singleton.mpr rfl
    have hi : GatherDims.siIdx gather_S512x64_S16x2048x1_S16x2048x64_2_0_n_n_0_2_164 (ix3 b t a)
        ⟨_, List.idxOf_lt_length_iff.2 hm⟩ = ix3 b t 0 := by
      funext e
      fin_cases e <;> rfl
    have := k.isLt
    refine (dif_pos hm).trans ((congrArg (fun e => min (idx e).toInt.toNat 511) hi).trans ?_)
    rw [h]
    exact Nat.min_eq_left (by omega)
  · have hs : GatherDims.start gather_S512x64_S16x2048x1_S16x2048x64_2_0_n_n_0_2_164 (ix3 b t a) idx 1 = 0 := dif_neg (by decide)
    refine (congrArg (fun n => n + 0 + GatherDims.offCoord gather_S512x64_S16x2048x1_S16x2048x64_2_0_n_n_0_2_164 (ix3 b t a) 1) hs).trans ?_
    rw [Nat.zero_add]
    rfl

theorem toInt_code (k : Fin 512) : (BitVec.ofNat 32 k : BitVec 32).toInt = (k : ℤ) := by
  have := k.isLt
  rw [BitVec.toInt_eq_toNat_of_lt (by rw [BitVec.toNat_ofNat]; omega), BitVec.toNat_ofNat]
  norm_cast
  exact Nat.mod_eq_of_lt (by omega)

/-- A code's number is neither negative nor above 511. -/
theorem at_least (k : Fin 512) : IntOp.cmpi .sge (BitVec.ofNat 32 k : BitVec 32) 0#32 = 1#1 := by
  simp [IntOp.cmpi, BitVec.sle, toInt_code]
theorem at_most (k : Fin 512) : IntOp.cmpi .sle (BitVec.ofNat 32 k : BitVec 32) 511#32 = 1#1 := by
  have := k.isLt
  have e : (511#32 : BitVec 32).toInt = 511 := rfl
  simp only [IntOp.cmpi, BitVec.sle, toInt_code, e]
  rw [decide_eq_true (by omega)]
  rfl
theorem not_negative (k : Fin 512) : IntOp.cmpi .slt (BitVec.ofNat 32 k : BitVec 32) 0#32 = 0#1 := by
  simp only [IntOp.cmpi, BitVec.slt, toInt_code, BitVec.toInt_zero]
  rw [decide_eq_false (by omega)]
  rfl

variable {W : Valuation τ sig (Elt Ideal)}

theorem take_at {cb : TRef sig ⟨S512x64, .f32⟩} {ix : TRef sig ⟨S16x2048, .i32⟩} {φ : fn_take.Bufs}
    (h : Settled W (fn_take.body (F := Ideal) cb ix φ)) (b : Fin 16) (t : Fin 2048) (a : Fin 64) (k : Fin 512)
    (hk : wd W ix (ix2 b t) = BitVec.ofNat 32 k) : fl W φ.v16 (ix3 b t a) = fl W cb (ix2 k a) := by
  unfold fn_take.body at h
  replace h := h.cons; obtain ⟨c, h⟩ := h
  replace h := h.cons; obtain ⟨v0, h⟩ := h
  replace h := h.cons; obtain ⟨v1, h⟩ := h
  replace h := h.cons; obtain ⟨c_0, h⟩ := h
  replace h := h.cons; obtain ⟨v2, h⟩ := h
  replace h := h.cons; obtain ⟨v3, h⟩ := h
  replace h := h.split ⟨_, by hlo_seq⟩; obtain ⟨hw, h⟩ := h
  unfold fn_where_0.body at hw
  replace hw := hw.cons; obtain ⟨w0, -⟩ := hw
  replace h := h.cons; obtain ⟨v5, h⟩ := h
  replace h := h.cons; obtain ⟨c_1, h⟩ := h
  replace h := h.cons; obtain ⟨c_2, h⟩ := h
  replace h := h.cons; obtain ⟨v6, h⟩ := h
  replace h := h.cons; obtain ⟨v7, h⟩ := h
  replace h := h.cons; obtain ⟨v8, h⟩ := h
  replace h := h.cons; obtain ⟨v9, h⟩ := h
  replace h := h.cons; obtain ⟨v10, h⟩ := h
  replace h := h.cons; obtain ⟨v11, h⟩ := h
  replace h := h.cons; obtain ⟨c_3, h⟩ := h
  replace h := h.cons; obtain ⟨v12, h⟩ := h
  replace h := h.cons; obtain ⟨v13, h⟩ := h
  replace h := h.cons; obtain ⟨v14, h⟩ := h
  replace h := h.cons; obtain ⟨cst, h⟩ := h
  replace h := h.cons; obtain ⟨v15, h⟩ := h
  replace h := h.cons; obtain ⟨v16, h⟩ := h
  have e4 : rd W φ.call0.v0 (ix2 b t) = BitVec.ofNat 32 k := by
    rw [rd_ternary w0, rd_binary v1, rd_unary v0, rd_nullary c]
    pointwise
    rw [show rd W ix (ix2 b t) = BitVec.ofNat 32 k from hk, not_negative]
    rfl
  have e5 : rd W φ.v5 (ix3 b t 0) = BitVec.ofNat 32 k := by
    rw [rd_unary v5]
    pointwise
    exact e4
  have e12 : rd W φ.v12 (ix2 b t) = 1#1 := by
    rw [rd_binary v12, rd_nullary c_3, rd_binary v11, rd_binary v10, rd_unary v9, rd_unary v8, rd_nullary c_1,
      rd_binary v7, rd_unary v6, rd_nullary c_2]
    pointwise
    rw [Finset.univ_unique, Finset.fold_singleton]
    change IntOp.andi (IntOp.andi (IntOp.cmpi _ (rd W φ.v5 (ix3 b t 0)) _) (IntOp.cmpi _ (rd W φ.v5 (ix3 b t 0)) _)) _ = _
    rw [e5, at_least, at_most]
    rfl
  rw [fl, rd_ternary v16, rd_unary v14, rd_binary v13]
  pointwise
  rw [e12, gather_at _ _ b t a k (by rw [e5, toInt_code]; rfl)]
  rfl

end Cert.RefTake
-- ==== Proof.RefPick.lean ====
/-
  The reference's nearest code, taken by index, at one row.
-/
module

public import proofs.«01_k».proof.Proof.RefTake

@[expose] public section

set_option maxRecDepth 16384

noncomputable section

namespace Cert.RefPick

open Idealize.ShloMosaic Idealize.ShloMosaic.TcCoe Idealize.ShloMosaic.StableHlo Idealize.SL.Sem Cert.ReferenceIdeal Cert.Settle Cert.Rows
  Cert.RefNorm Cert.RefTake

attribute [local instance] Cert.ReferenceIdeal.Gen.facts

/-! ## The smallest of numbered values, by comparing two at a time -/

/-- `p` comes no later than `q`: a smaller value, or the same value and no larger a number. -/
def Before (p q : EReal × BitVec 32) : Prop := p.1 < q.1 ∨ p.1 = q.1 ∧ p.2.toInt ≤ q.2.toInt

theorem Before.refl (p : EReal × BitVec 32) : Before p p := Or.inr ⟨rfl, le_rfl⟩
theorem Before.trans {p q r : EReal × BitVec 32} (h : Before p q) (h' : Before q r) : Before p r := by
  rcases h with h | ⟨h, hn⟩ <;> rcases h' with h' | ⟨h', hn'⟩
  · exact Or.inl (h.trans h')
  · exact Or.inl (h' ▸ h)
  · exact Or.inl (h ▸ h')
  · exact Or.inr ⟨h.trans h', hn.trans hn'⟩

open Classical in
/-- One comparison keeps one of the two, no later than either. -/
theorem step (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  have key : reducer_argmin_f32_i32 (F := Ideal) p q = if Before q p then q else p := by
    obtain ⟨a, i⟩ := p
    obtain ⟨b, j⟩ := q
    rcases lt_trichotomy a b with h | h | h
    · have hn : ¬Before (b, j) (a, i) := by
        rintro (h' | h')
        · exact lt_asymm h h'
        · exact h.ne' h'.1
      simp [reducer_argmin_f32_i32, Idealize.ShloMosaic.Ideal.cmpf_def, Ideal.cmp, IntOp.ori, IntOp.andi, IntOp.cmpi, Scalar.select, hn, h, h.ne]
    · subst h
      by_cases hs : i.toInt < j.toInt
      · simp [reducer_argmin_f32_i32, Idealize.ShloMosaic.Ideal.cmpf_def, Ideal.cmp, IntOp.ori, IntOp.andi, IntOp.cmpi, Scalar.select, Before, hs, BitVec.slt]
      · simp [reducer_argmin_f32_i32, Idealize.ShloMosaic.Ideal.cmpf_def, Ideal.cmp, IntOp.ori, IntOp.andi, IntOp.cmpi, Scalar.select, Before, hs, BitVec.slt]
    · have hy : Before (b, j) (a, i) := Or.inl h
      simp [reducer_argmin_f32_i32, Idealize.ShloMosaic.Ideal.cmpf_def, Ideal.cmp, IntOp.ori, IntOp.andi, IntOp.cmpi, Scalar.select, hy, h.not_gt, h.ne']
  rw [key]
  split
  · next h => exact ⟨Or.inr rfl, h, Before.refl q⟩
  · next h =>
    refine ⟨Or.inl rfl, Before.refl p, ?_⟩
    unfold Before at *
    push Not at h
    rcases lt_or_eq_of_le h.1 with h1 | h1
    · exact Or.inl h1
    · exact Or.inr ⟨h1, (h.2 h1.symm).le⟩

/-- So does the whole fold, among the start and the list. -/
theorem fold_spec (l : List (EReal × BitVec 32)) (p : EReal × BitVec 32) :
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l generalizing p with
  | nil => exact ⟨Or.inl rfl, Before.refl p, by simp⟩
  | cons q l ih =>
    obtain ⟨h1, h2, h3⟩ := ih (reducer_argmin_f32_i32 (F := Ideal) p q)
    obtain ⟨s1, s2, s3⟩ := step p q
    rw [List.foldl_cons]
    refine ⟨?_, h2.trans s2, fun r hr => ?_⟩
    · rcases h1 with h1 | h1
      · rw [h1]
        rcases s1 with s1 | s1
        · exact Or.inl s1
        · exact Or.inr (by rw [s1]; exact List.mem_cons_self)
      · exact Or.inr (List.mem_cons_of_mem _ h1)
    · rcases List.mem_cons.mp hr with rfl | hr
      · exact h2.trans s3
      · exact h3 r hr

/-- Over 512 values, numbered, from infinity: the first of the smallest. -/
theorem fold_first (d : Fin 512 → EReal) (l : List (EReal × BitVec 32))
    (hl : ∀ p, p ∈ l ↔ ∃ k : Fin 512, p = (d k, BitVec.ofNat 32 k)) :
    (l.foldl (reducer_argmin_f32_i32 (F := Ideal)) (⊤, 0#32)).2 = BitVec.ofNat 32 (best d) := by
  obtain ⟨h1, -, h3⟩ := fold_spec l (⊤, 0#32)
  have hb : ∀ k : Fin 512, Before (l.foldl (reducer_argmin_f32_i32 (F := Ideal)) (⊤, 0#32)) (d k, BitVec.ofNat 32 k) :=
    fun k => h3 _ ((hl _).mpr ⟨k, rfl⟩)
  rcases h1 with h1 | h1
  · rw [h1] at hb ⊢
    have ht : ∀ k, d k = ⊤ := fun k => by
      rcases hb k with h | h
      · exact absurd h (not_lt.mpr le_top)
      · exact h.1.symm
    rw [best_eq (i := 0) ⟨fun k => by rw [ht k, ht 0], fun k hk => absurd hk (Fin.not_lt_zero k)⟩]
    rfl
  · obtain ⟨k, hk⟩ := (hl _).mp h1
    rw [hk] at hb ⊢
    refine congrArg (fun i : Fin 512 => (BitVec.ofNat 32 i : BitVec 32)) (best_eq (i := k) ⟨fun j => ?_, fun j hj => ?_⟩).symm
    · rcases hb j with h | h
      · exact le_of_lt h
      · exact le_of_eq h.1
    · rcases hb j with h | h
      · exact h
      · have := h.2
        simp only [toInt_code] at this
        exact absurd hj (by rw [Fin.lt_def]; omega)

variable {W : Valuation τ sig (Elt Ideal)}

theorem argmin_at {d : TRef sig ⟨S16x2048x512, .f32⟩} {φ : fn_argmin.Bufs}
    (h : Settled W (fn_argmin.body (F := Ideal) d φ)) (b : Fin 16) (t : Fin 2048) :
    wd W φ.v1_1 (ix2 b t) = BitVec.ofNat 32 (best fun k => fl W d (ix3 b t k)) := by
  unfold fn_argmin.body at h
  replace h := h.cons; obtain ⟨v0, h⟩ := h
  replace h := h.cons; obtain ⟨cst, h⟩ := h
  replace h := h.cons; obtain ⟨c, h⟩ := h
  replace h := h.cons; obtain ⟨v1_0, h⟩ := h
  replace h := h.cons; obtain ⟨v1_1, h⟩ := h
  rw [wd, rd_quaternary v1_1, rd_nullary v0, rd_nullary cst, rd_nullary c]
  dsimp only
  rw [Idealize.ShloMosaic.Ideal.argReduce_eq_reduce2, Host.reduce2_eq_foldl_fiber]
  have e1 : ∀ i, constant (F := Ideal) S_ .f32 0x7F800000#32 i = (⊤ : EReal) := fun _ => inf_eq
  have e2 : ∀ i, constantI S_ 32 0#32 i = 0#32 := fun _ => rfl
  rw [e1, e2]
  refine fold_first (fun k => fl W d (ix3 b t k)) _ fun p => ?_
  simp only [Host.argReduceFiber, List.mem_map, List.mem_filter, List.mem_finRange, true_and, decide_eq_true_eq]
  constructor
  · rintro ⟨n, hn, rfl⟩
    refine ⟨S16x2048x512.rowMajor.symm n 2, ?_⟩
    have h0 := congrArg (fun j : S16x2048.Idx => (j 0).val) hn
    have h1 := congrArg (fun j : S16x2048.Idx => (j 1).val) hn
    dsimp only at h0 h1
    rw [Shape.ReducesTo.drop_apply_val_of_eq _ _ 0 0] at h0
    rw [Shape.ReducesTo.drop_apply_val_of_eq _ _ 1 1] at h1
    have e : S16x2048x512.rowMajor.symm n = ix3 b t (S16x2048x512.rowMajor.symm n 2) := by
      funext a
      fin_cases a
      · exact Fin.ext h0
      · exact Fin.ext h1
      · rfl
    exact Prod.ext (congrArg (rd W d) e) rfl
  · rintro ⟨k, rfl⟩
    refine ⟨S16x2048x512.rowMajor (ix3 b t k), ?_, ?_⟩
    · rw [Equiv.symm_apply_apply]
      funext a
      fin_cases a
      · exact Fin.ext (Shape.ReducesTo.drop_apply_val_of_eq (s := S16x2048x512) (axes := [2]) (t := S16x2048) _ _ 0 0)
      · exact Fin.ext (Shape.ReducesTo.drop_apply_val_of_eq (s := S16x2048x512) (axes := [2]) (t := S16x2048) _ _ 1 1)
    · rw [Equiv.symm_apply_apply]
      rfl

/-- One level: the code of a row's rest, the code's vector, and the level's loss. -/
structure Level (W : Valuation τ sig (Elt Ideal)) (r : Fin 16 → Fin 2048 → Fin 64 → EReal) (cb : Fin 512 → Fin 64 → EReal)
    (φ : fn_quantize.Bufs) : Prop where
  code_at : ∀ b t, wd W φ.call0.v1_1 (ix2 b t) = BitVec.ofNat 32 (code cb (r b t))
  pick_at : ∀ b t a, fl W φ.call1.v16 (ix3 b t a) = pick cb (r b t) a
  loss_at : fl W φ.v20 ix0 = Ideal.ofBits .f32 0x3E800000#32 * Ideal.div (∑ b, ∑ t, err cb (r b t)) (Ideal.ofBits .f32 0x4A000000#32)

theorem quantize_at {r : TRef sig ⟨S16x2048x64, .f32⟩} {cb : TRef sig ⟨S512x64, .f32⟩} {φ : fn_quantize.Bufs}
    (h : Settled W (fn_quantize.body (F := Ideal) r cb φ)) :
    Level W (fun b t a => fl W r (ix3 b t a)) (fun k a => fl W cb (ix2 k a)) φ := by
  unfold fn_quantize.body at h
  replace h := h.cons; obtain ⟨v0, h⟩ := h
  replace h := h.cons; obtain ⟨cst, h⟩ := h
  replace h := h.cons; obtain ⟨v1, h⟩ := h
  replace h := h.cons; obtain ⟨v2, h⟩ := h
  replace h := h.cons; obtain ⟨v3, h⟩ := h
  replace h := h.cons; obtain ⟨v4, h⟩ := h
  replace h := h.cons; obtain ⟨cst_0, h⟩ := h
  replace h := h.cons; obtain ⟨v5, h⟩ := h
  replace h := h.cons; obtain ⟨v6, h⟩ := h
  replace h := h.cons; obtain ⟨v7, h⟩ := h
  replace h := h.cons; obtain ⟨v8, h⟩ := h
  replace h := h.cons; obtain ⟨v9, h⟩ := h
  replace h := h.cons; obtain ⟨cst_1, h⟩ := h
  replace h := h.cons; obtain ⟨v10, h⟩ := h
  replace h := h.cons; obtain ⟨v11, h⟩ := h
  replace h := h.cons; obtain ⟨v12, h⟩ := h
  replace h := h.cons; obtain ⟨v13, h⟩ := h
  replace h := h.split ⟨_, by hlo_seq⟩; obtain ⟨hm, h⟩ := h
  replace h := h.split ⟨_, by hlo_seq⟩; obtain ⟨ht, h⟩ := h
  replace h := h.cons; obtain ⟨v16, h⟩ := h
  replace h := h.cons; obtain ⟨v17, h⟩ := h
  replace h := h.cons; obtain ⟨cst_2, h⟩ := h
  replace h := h.cons; obtain ⟨v18, h⟩ := h
  replace h := h.cons; obtain ⟨cst_3, h⟩ := h
  replace h := h.cons; obtain ⟨v19, h⟩ := h
  replace h := h.cons; obtain ⟨cst_4, h⟩ := h
  replace h := h.cons; obtain ⟨v20, h⟩ := h
  have ed : ∀ (b : Fin 16) (t : Fin 2048) (k : Fin 512), fl W φ.v13 (ix3 b t k)
      = dist (fun a => fl W r (ix3 b t a)) (fun k a => fl W cb (ix2 k a)) k := fun b t k => by
    rw [fl, rd_binary v13, rd_unary v12, rd_unary v11, rd_binary v10, rd_nullary cst_1, rd_binary v9, rd_binary v8, rd_unary v7,
      rd_binary v6, rd_unary v5, rd_nullary cst_0, rd_binary v4, rd_unary v3, rd_unary v2, rd_binary v1, rd_nullary cst, rd_binary v0]
    pointwise
    rfl
  have ec : ∀ b t, wd W φ.call0.v1_1 (ix2 b t)
      = BitVec.ofNat 32 (code (fun k a => fl W cb (ix2 k a)) fun a => fl W r (ix3 b t a)) := fun b t => by
    rw [argmin_at hm b t]
    simp only [ed]
    rfl
  have ep : ∀ b t a, fl W φ.call1.v16 (ix3 b t a)
      = pick (fun k a => fl W cb (ix2 k a)) (fun a => fl W r (ix3 b t a)) a := fun b t a => take_at ht b t a _ (ec b t)
  refine ⟨ec, ep, ?_⟩
  rw [fl, rd_binary v20, rd_nullary cst_4, rd_binary v19, rd_nullary cst_3, rd_binary v18, rd_nullary cst_2, rd_binary v17,
    rd_binary v16]
  pointwise
  have ep' : ∀ b t a, rd W φ.call1.v16 (ix3 b t a)
      = pick (fun k a => fl W cb (ix2 k a)) (fun a => fl W r (ix3 b t a)) a := ep
  simp only [ep']
  rfl

end Cert.RefPick
-- ==== Proof.RefMain.lean ====
/-
  The reference's lines up to the indices, the reconstruction and the commitment loss.
-/
module

public import proofs.«01_k».proof.Proof.RefPick
public import proofs.«01_k».proof.Proof.Whole

@[expose] public section

set_option maxRecDepth 16384

noncomputable section

namespace Cert.RefMain

open Idealize.ShloMosaic Idealize.ShloMosaic.TcCoe Idealize.ShloMosaic.StableHlo Idealize.SL.Sem Cert.ReferenceIdeal Cert.Settle Cert.Rows
  Cert.RefNorm Cert.RefPick Cert.Whole

attribute [local instance] Cert.ReferenceIdeal.Gen.facts

/-- The input and the weights in the contents `W`. -/
abbrev xs (W : Valuation τ sig (Elt Ideal)) : S16x2048x14.Idx → EReal := W (Proc.devRef .tc main_arg0)
abbrev ws (W : Valuation τ sig (Elt Ideal)) : Weights :=
  weights (W (Proc.devRef .tc main_arg1)) (W (Proc.devRef .tc main_arg2)) (W (Proc.devRef .tc main_arg3)) (W (Proc.devRef .tc main_arg4))
    (W (Proc.devRef .tc main_arg5)) (W (Proc.devRef .tc main_arg6)) (W (Proc.devRef .tc main_arg7)) (W (Proc.devRef .tc main_arg8))
    (W (Proc.devRef .tc main_arg9)) (W (Proc.devRef .tc main_arg10)) (W (Proc.devRef .tc main_arg11)) (W (Proc.devRef .tc main_arg12))
    (W (Proc.devRef .tc main_arg13))

/-- What is left of row `t` of batch `b` before level `q`. -/
abbrev before (W : Valuation τ sig (Elt Ideal)) (q : Fin 4) (b : Fin 16) (t : Fin 2048) : Fin 64 → EReal :=
  rest (ws W) (enc (ws W) (rowAt (xs W) b t)) q

/-- What the first lines leave: three of the results, and where the counting of codes starts from. -/
structure Front (W : Valuation τ sig (Elt Ideal)) : Prop where
  recon_eq : W (Proc.devRef .tc main_v49) = recA (ws W) (xs W)
  codes_eq : W (Proc.devRef .tc main_v38) = idxA (ws W) (xs W)
  commit_eq : W (Proc.devRef .tc main_v31) = fun _ : S_.Idx => commitA (ws W) (xs W)
  first_code : ∀ n : Fin 32768, W (Proc.devRef .tc main_v52) (ix1 n) = BitVec.ofNat 32 (codes (ws W) (nth (xs W) n) 0)
  zeros : W (Proc.devRef .tc main_v53) = fun _ : S32768x512.Idx => (0 : EReal)
  numbers : ∀ n : Fin 32768, W (Proc.devRef .tc main_v54) (ix1 n) = BitVec.ofNat 32 n
  zero : ∀ n : Fin 32768, W (Proc.devRef .tc main_v55) (ix1 n) = 0#32

variable {W : Valuation τ sig (Elt Ideal)}

set_option maxHeartbeats 4000000 in
theorem front (d : Dev nD) (h : Settled W (main_part0 (F := Ideal) d)) : Front W := by
  unfold main_part0 at h
  replace h := h.cons; obtain ⟨v0, h⟩ := h
  replace h := h.cons; obtain ⟨v1, h⟩ := h
  replace h := h.cons; obtain ⟨v2, h⟩ := h
  replace h := h.cons; obtain ⟨v3, h⟩ := h
  replace h := h.split ⟨_, by hlo_seq⟩; obtain ⟨n0, h⟩ := h
  replace h := h.cons; obtain ⟨v5, h⟩ := h
  replace h := h.cons; obtain ⟨v6, h⟩ := h
  replace h := h.cons; obtain ⟨v7, h⟩ := h
  replace h := h.cons; obtain ⟨v8, h⟩ := h
  have e3 : ∀ b t, (fun k => fl W (.of main_v3) (ix3 b t k)) = lin (rowAt (xs W) b t) (ws W).ew1 (ws W).eb1 := fun b t => funext fun k => by
    change W (Proc.devRef .tc main_v3) (ix3 b t k) = _
    rw [at_binary v3, at_unary v2, at_unary v1, at_binary v0]
    pointwise
    rfl
  have z : ∀ b t a, W (Proc.devRef .tc main_v8) (ix3 b t a) = before W 0 b t a := fun b t a => by
    have e4 : ∀ k, fl W (.of main_v4) (ix3 b t k) = _ := fun k => norm_gelu_at n0 b t k
    rw [e3 b t] at e4
    replace e4 : ∀ k, W (Proc.devRef .tc main_v4) (ix3 b t k) = _ := e4
    rw [at_binary v8, at_unary v7, at_unary v6, at_binary v5]
    pointwise
    simp only [e4]
    rfl
  clear e3 n0 v0 v1 v2 v3 v5 v6 v7 v8
  replace h := h.cons; obtain ⟨cst, h⟩ := h
  replace h := h.cons; obtain ⟨v9, h⟩ := h
  replace h := h.cons; obtain ⟨v10, h⟩ := h
  replace h := h.cons; obtain ⟨v11, h⟩ := h
  replace h := h.split ⟨_, by hlo_seq⟩; obtain ⟨q0, h⟩ := h
  replace h := h.cons; obtain ⟨cst_0, h⟩ := h
  replace h := h.cons; obtain ⟨v13, h⟩ := h
  replace h := h.cons; obtain ⟨v14, h⟩ := h
  replace h := h.cons; obtain ⟨v15, h⟩ := h
  have L0 : Level W (before W 0) ((ws W).cb 0) main_call1 := by
    have L := quantize_at q0
    have er : (fun b t a => fl W (.of main_v8) (ix3 b t a)) = before W 0 := funext fun b => funext fun t => funext fun a => z b t a
    have ec : (fun k a => fl W (.of main_v11) (ix2 k a)) = (ws W).cb 0 := funext fun k => funext fun a => by
      change W (Proc.devRef .tc main_v11) (ix2 k a) = _
      rw [at_reshape v11, at_unary v10]
      pointwise
      rfl
    rw [er, ec] at L
    exact L
  have p0 : ∀ b t a, W (Proc.devRef .tc main_v12_1) (ix3 b t a) = pick ((ws W).cb 0) (before W 0 b t) a := L0.pick_at
  clear q0
  replace h := h.cons; obtain ⟨v16, h⟩ := h
  replace h := h.cons; obtain ⟨v17, h⟩ := h
  replace h := h.split ⟨_, by hlo_seq⟩; obtain ⟨q1, h⟩ := h
  replace h := h.cons; obtain ⟨v19, h⟩ := h
  replace h := h.cons; obtain ⟨v20, h⟩ := h
  replace h := h.cons; obtain ⟨v21, h⟩ := h
  have r1 : ∀ b t a, W (Proc.devRef .tc main_v15) (ix3 b t a) = before W 1 b t a := fun b t a => by
    rw [at_binary v15]
    pointwise
    rw [z b t a, p0 b t a]
    rfl
  have L1 : Level W (before W 1) ((ws W).cb 1) main_call2 := by
    have L := quantize_at q1
    have er : (fun b t a => fl W (.of main_v15) (ix3 b t a)) = before W 1 := funext fun b => funext fun t => funext fun a => r1 b t a
    have ec : (fun k a => fl W (.of main_v17) (ix2 k a)) = (ws W).cb 1 := funext fun k => funext fun a => by
      change W (Proc.devRef .tc main_v17) (ix2 k a) = _
      rw [at_reshape v17, at_unary v16]
      pointwise
      rfl
    rw [er, ec] at L
    exact L
  have p1 : ∀ b t a, W (Proc.devRef .tc main_v18_1) (ix3 b t a) = pick ((ws W).cb 1) (before W 1 b t) a := L1.pick_at
  clear q1
  replace h := h.cons; obtain ⟨v22, h⟩ := h
  replace h := h.cons; obtain ⟨v23, h⟩ := h
  replace h := h.split ⟨_, by hlo_seq⟩; obtain ⟨q2, h⟩ := h
  replace h := h.cons; obtain ⟨v25, h⟩ := h
  replace h := h.cons; obtain ⟨v26, h⟩ := h
  replace h := h.cons; obtain ⟨v27, h⟩ := h
  have r2 : ∀ b t a, W (Proc.devRef .tc main_v21) (ix3 b t a) = before W 2 b t a := fun b t a => by
    rw [at_binary v21]
    pointwise
    rw [r1 b t a, p1 b t a]
    rfl
  have L2 : Level W (before W 2) ((ws W).cb 2) main_call3 := by
    have L := quantize_at q2
    have er : (fun b t a => fl W (.of main_v21) (ix3 b t a)) = before W 2 := funext fun b => funext fun t => funext fun a => r2 b t a
    have ec : (fun k a => fl W (.of main_v23) (ix2 k a)) = (ws W).cb 2 := funext fun k => funext fun a => by
      change W (Proc.devRef .tc main_v23) (ix2 k a) = _
      rw [at_reshape v23, at_unary v22]
      pointwise
      rfl
    rw [er, ec] at L
    exact L
  have p2 : ∀ b t a, W (Proc.devRef .tc main_v24_1) (ix3 b t a) = pick ((ws W).cb 2) (before W 2 b t) a := L2.pick_at
  clear q2
  replace h := h.cons; obtain ⟨v28, h⟩ := h
  replace h := h.cons; obtain ⟨v29, h⟩ := h
  replace h := h.split ⟨_, by hlo_seq⟩; obtain ⟨q3, h⟩ := h
  replace h := h.cons; obtain ⟨v31, h⟩ := h
  replace h := h.cons; obtain ⟨v32, h⟩ := h
  replace h := h.cons; obtain ⟨v33, h⟩ := h
  have r3 : ∀ b t a, W (Proc.devRef .tc main_v27) (ix3 b t a) = before W 3 b t a := fun b t a => by
    rw [at_binary v27]
    pointwise
    rw [r2 b t a, p2 b t a]
    rfl
  have L3 : Level W (before W 3) ((ws W).cb 3) main_call4 := by
    have L := quantize_at q3
    have er : (fun b t a => fl W (.of main_v27) (ix3 b t a)) = before W 3 := funext fun b => funext fun t => funext fun a => r3 b t a
    have ec : (fun k a => fl W (.of main_v29) (ix2 k a)) = (ws W).cb 3 := funext fun k => funext fun a => by
      change W (Proc.devRef .tc main_v29) (ix2 k a) = _
      rw [at_reshape v29, at_unary v28]
      pointwise
      rfl
    rw [er, ec] at L
    exact L
  have p3 : ∀ b t a, W (Proc.devRef .tc main_v30_1) (ix3 b t a) = pick ((ws W).cb 3) (before W 3 b t) a := L3.pick_at
  clear q3
  replace h := h.cons; obtain ⟨v34, h⟩ := h
  replace h := h.cons; obtain ⟨v35, h⟩ := h
  replace h := h.cons; obtain ⟨v36, h⟩ := h
  replace h := h.cons; obtain ⟨v37, h⟩ := h
  replace h := h.cons; obtain ⟨v38, h⟩ := h
  replace h := h.cons; obtain ⟨v39, h⟩ := h
  replace h := h.cons; obtain ⟨v40, h⟩ := h
  replace h := h.cons; obtain ⟨v41, h⟩ := h
  replace h := h.cons; obtain ⟨v42, h⟩ := h
  replace h := h.cons; obtain ⟨v43, h⟩ := h
  replace h := h.cons; obtain ⟨v44, h⟩ := h
  replace h := h.split ⟨_, by hlo_seq⟩; obtain ⟨n1, h⟩ := h
  replace h := h.cons; obtain ⟨v46, h⟩ := h
  replace h := h.cons; obtain ⟨v47, h⟩ := h
  replace h := h.cons; obtain ⟨v48, h⟩ := h
  replace h := h.cons; obtain ⟨v49, h⟩ := h
  replace h := h.cons; obtain ⟨v50, h⟩ := h
  replace h := h.cons; obtain ⟨v51, h⟩ := h
  replace h := h.cons; obtain ⟨v52, h⟩ := h
  replace h := h.cons; obtain ⟨cst_1, h⟩ := h
  replace h := h.cons; obtain ⟨v53, h⟩ := h
  replace h := h.cons; obtain ⟨v54, h⟩ := h
  replace h := h.cons; obtain ⟨c, h⟩ := h
  have v55 := h.one
  have l0 : W (Proc.devRef .tc main_v12_2) ix0 = loss (ws W) (xs W) 0 := L0.loss_at
  have l1 : W (Proc.devRef .tc main_v18_2) ix0 = loss (ws W) (xs W) 1 := L1.loss_at
  have l2 : W (Proc.devRef .tc main_v24_2) ix0 = loss (ws W) (xs W) 2 := L2.loss_at
  have l3 : W (Proc.devRef .tc main_v30_2) ix0 = loss (ws W) (xs W) 3 := L3.loss_at
  have c0 : ∀ b t, W (Proc.devRef .tc main_v12_0) (ix2 b t) = BitVec.ofNat 32 (codes (ws W) (rowAt (xs W) b t) 0) := L0.code_at
  have c1 : ∀ b t, W (Proc.devRef .tc main_v18_0) (ix2 b t) = BitVec.ofNat 32 (codes (ws W) (rowAt (xs W) b t) 1) := L1.code_at
  have c2 : ∀ b t, W (Proc.devRef .tc main_v24_0) (ix2 b t) = BitVec.ofNat 32 (codes (ws W) (rowAt (xs W) b t) 2) := L2.code_at
  have c3 : ∀ b t, W (Proc.devRef .tc main_v30_0) (ix2 b t) = BitVec.ofNat 32 (codes (ws W) (rowAt (xs W) b t) 3) := L3.code_at
  have e40 : ∀ b t, (fun a => W (Proc.devRef .tc main_v40) (ix3 b t a))
      = fun a => before W 0 b t a + (total (ws W) (before W 0 b t) a - before W 0 b t a) := fun b t => funext fun a => by
    rw [at_binary v40, at_binary v39, at_binary v32, at_binary v26, at_binary v20, at_binary v14, at_unary v9, at_nullary cst]
    pointwise
    simp only [z, p0, p1, p2, p3]
    unfold total
    rw [zero_add]
    rfl
  have e44 : ∀ b t, (fun k => fl W (.of main_v44) (ix3 b t k))
      = lin (fun a => before W 0 b t a + (total (ws W) (before W 0 b t) a - before W 0 b t a)) (ws W).dw1 (ws W).db1 := fun b t => funext fun k => by
    rw [← e40 b t]
    change W (Proc.devRef .tc main_v44) (ix3 b t k) = _
    rw [at_binary v44, at_unary v43, at_unary v42, at_binary v41]
    pointwise
    rfl
  have e38 : ∀ b t q, W (Proc.devRef .tc main_v38) (ix3 b t q) = BitVec.ofNat 32 (codes (ws W) (rowAt (xs W) b t) q) := fun b t q => by
    rw [at_nary v38]
    fin_cases q
    · pointwise
      rw [at_unary v34]
      pointwise
      exact c0 b t
    · pointwise
      rw [at_unary v35]
      pointwise
      exact c1 b t
    · pointwise
      rw [at_unary v36]
      pointwise
      exact c2 b t
    · pointwise
      rw [at_unary v37]
      pointwise
      exact c3 b t
  have e49 : ∀ b t a, W (Proc.devRef .tc main_v49) (ix3 b t a) = recon (ws W) (rowAt (xs W) b t) a := fun b t a => by
    have e45 : ∀ k, fl W (.of main_v45) (ix3 b t k) = _ := fun k => norm_gelu_at n1 b t k
    rw [e44 b t] at e45
    replace e45 : ∀ k, W (Proc.devRef .tc main_v45) (ix3 b t k) = _ := e45
    rw [at_binary v49, at_unary v48, at_unary v47, at_binary v46]
    pointwise
    simp only [e45]
    rfl
  refine ⟨?_, ?_, ?_, ?_, ?_, ?_, ?_⟩
  · funext j
    have ej : j = ix3 (j 0) (j 1) (j 2) := by funext a; fin_cases a <;> rfl
    exact (congrArg (W (Proc.devRef .tc main_v49)) ej).trans (e49 (j 0) (j 1) (j 2))
  · funext j
    have ej : j = ix3 (j 0) (j 1) (j 2) := by funext a; fin_cases a <;> rfl
    exact (congrArg (W (Proc.devRef .tc main_v38)) ej).trans (e38 (j 0) (j 1) (j 2))
  · funext j
    have ej : j = ix0 := funext fun a => a.elim0
    rw [ej, at_binary v31, at_binary v25, at_binary v19, at_binary v13, at_nullary cst_0]
    pointwise
    rw [l0, l1, l2, l3]
    unfold commitA
    rw [zero_add]
  · intro n
    rw [at_reshape v52, at_reshape v51, at_unary v50]
    pointwise
    rw [e38]
    refine congrArg (fun r => BitVec.ofNat 32 (codes (ws W) r 0)) ?_
    unfold nth
    congr 1
    exact Fin.ext (Nat.mod_eq_of_lt (by have := n.isLt; omega)).symm
  · rw [at_unary v53, at_nullary cst_1]
    funext j
    exact Ideal.ofBits_zero_f32
  · intro n
    rw [at_nullary v54]
    rfl
  · intro n
    rw [at_unary v55, at_nullary c]
    rfl

end Cert.RefMain
-- ==== Proof.RefHist.lean ====
/-
  The reference's one-hot rows: ones written, one a row, at the row's own number and the row's code.
-/
module

public import proofs.«01_k».proof.Proof.RefTake
public import Idealize.ShloMosaic.Lib.Routing.OpsSet

@[expose] public section

set_option maxRecDepth 16384

noncomputable section

namespace Cert.RefHist

open Idealize.ShloMosaic Idealize.ShloMosaic.TcCoe Idealize.ShloMosaic.StableHlo Idealize.SL.Sem Cert.ReferenceIdeal Cert.Settle Cert.Rows
  Cert.RefNorm Cert.RefTake

attribute [local instance] Cert.ReferenceIdeal.Gen.facts

/-- A row's number, as a word read signed. -/
theorem toInt_row (n : Fin 32768) : (BitVec.ofNat 32 n : BitVec 32).toInt = (n : ℤ) := by
  have := n.isLt
  rw [BitVec.toInt_eq_toNat_of_lt (by rw [BitVec.toNat_ofNat]; omega), BitVec.toNat_ofNat]
  norm_cast
  exact Nat.mod_eq_of_lt (by omega)
theorem row_not_negative (n : Fin 32768) : IntOp.cmpi .slt (BitVec.ofNat 32 n : BitVec 32) 0#32 = 0#1 := by
  simp only [IntOp.cmpi, BitVec.slt, toInt_row, BitVec.toInt_zero]
  rw [decide_eq_false (by omega)]
  rfl

/-- Where a row's one goes. -/
theorem lands (idx : S32768x2.Idx → BitVec 32) (n : Fin 32768) (c : Fin 512) (h0 : idx (ix2 n 0) = BitVec.ofNat 32 n)
    (h1 : idx (ix2 n 1) = BitVec.ofNat 32 c) (r : Fin 32768) (k : Fin 512) :
    scatter_S32768x512_S32768x2_S32768_n_01_01_1.resultIdx? (ix1 n) idx = some (ix2 r k) ↔ n = r ∧ c = k := by
  have hm : ∀ q : Fin 2, q ∈ scatter_S32768x512_S32768x2_S32768_n_01_01_1.scatterDimsToOperandDims := fun q => by
    fin_cases q <;> decide
  have hw : ∀ q : Fin 2, scatter_S32768x512_S32768x2_S32768_n_01_01_1.window (ix1 n) q = 0 := fun q => by
    unfold ScatterDims.window
    exact dif_neg fun h : q ∈ scatter_S32768x512_S32768x2_S32768_n_01_01_1.sKept => absurd (show q ∈ scatter_S32768x512_S32768x2_S32768_n_01_01_1.insertedWindowDims by fin_cases q <;> decide)
      (of_decide_eq_true (List.mem_filter.1 h).2)
  have hi : ∀ q : Fin 2, scatter_S32768x512_S32768x2_S32768_n_01_01_1.siIdx (ix1 n) ⟨_, List.idxOf_lt_length_iff.2 (hm q)⟩
      = ix2 n q := fun q => by
    funext e
    fin_cases q <;> fin_cases e <;> rfl
  have hs : ∀ q : Fin 2, scatter_S32768x512_S32768x2_S32768_n_01_01_1.start (ix1 n) idx q = (idx (ix2 n q)).toInt := fun q =>
    (dif_pos (hm q)).trans (congrArg (fun e => (idx e).toInt) (hi q))
  refine (Routing.resultIdx?_ix2 (R := 32768) (C := 512) _ _ _ r k).trans ?_
  refine Iff.trans (b := ((n : ℕ) : ℤ) = ((r : ℕ) : ℤ) ∧ ((c : ℕ) : ℤ) = ((k : ℕ) : ℤ)) (Eq.to_iff (congrArg₂ And (congrArg (· = _) ?_) (congrArg (· = _) ?_))) ?_
  · refine (congrArg₂ (fun a (b : ℕ) => a + (b : ℤ)) (hs 0) (hw 0)).trans ?_
    rw [h0, toInt_row]
    exact add_zero _
  · refine (congrArg₂ (fun a (b : ℕ) => a + (b : ℤ)) (hs 1) (hw 1)).trans ?_
    rw [h1, toInt_code]
    exact add_zero _
  · rw [Fin.ext_iff, Fin.ext_iff]
    norm_cast

/-- The one-hot rows: a one at the row's code, the start elsewhere. -/
theorem one_hot (x0 : S32768x512.Idx → EReal) (idx : S32768x2.Idx → BitVec 32) (upd : S32768.Idx → EReal) (c : Fin 32768 → Fin 512)
    (h0 : ∀ n, idx (ix2 n 0) = BitVec.ofNat 32 n) (h1 : ∀ n, idx (ix2 n 1) = BitVec.ofNat 32 (c n))
    (hx : ∀ i, x0 i = 0) (hu : ∀ i, upd i = 1) (n : Fin 32768) (k : Fin 512) :
    Host.scatter scatter_S32768x512_S32768x2_S32768_n_01_01_1 (fun _ b => b) x0 idx upd (ix2 n k) = if k = c n then 1 else 0 := by
  split
  · next h => exact Routing.scatter_set_hit _ x0 idx upd _ 1 (fun i _ => hu i) (ix1 n) ((lands idx n _ (h0 n) (h1 n) n k).mpr ⟨rfl, h.symm⟩)
  · next h =>
    refine (Routing.scatter_set_miss _ x0 idx upd _ fun i hi => ?_).trans (hx _)
    have e : i = ix1 (i 0) := by funext a; fin_cases a; rfl
    rw [e] at hi
    obtain ⟨rfl, h'⟩ := (lands idx (i 0) _ (h0 _) (h1 _) n k).mp hi
    exact h h'.symm

end Cert.RefHist
-- ==== Proof.RefEnd.lean ====
/-
  The reference's last lines: how often each code is taken at level 0, and the perplexity; then its whole run.
-/
module

public import proofs.«01_k».proof.Proof.RefMain
public import proofs.«01_k».proof.Proof.RefHist
public import proofs.«01_k».proof.Proof.RefRun

@[expose] public section

set_option maxRecDepth 16384

noncomputable section

namespace Cert.RefEnd

open Idealize.ShloMosaic Idealize.ShloMosaic.TcCoe Idealize.ShloMosaic.StableHlo Idealize.SL.Sem Cert.ReferenceIdeal Cert.Settle Cert.Rows
  Cert.RefNorm Cert.RefTake Cert.RefHist Cert.RefMain Cert.Whole

attribute [local instance] Cert.ReferenceIdeal.Gen.facts

variable {W : Valuation τ sig (Elt Ideal)}

/-- Counting through all rows is counting through batches and positions. -/
theorem count_rows (w : Weights) (x : S16x2048x14.Idx → EReal) (k : Fin 512) :
    ∑ n : Fin 32768, (if k = codes w (nth x n) 0 then (1 : EReal) else 0) = count w x k := by
  refine (Fin.sum_univ_eq_sum_range (fun n => if k = codes w (nth x n) 0 then (1 : EReal) else 0) 32768).trans ?_
  have h := sum_blocks 16 2048 fun n => if k = codes w (nth x n) 0 then (1 : EReal) else 0
  rw [show 16 * 2048 = 32768 by norm_num] at h
  rw [← h]
  simp only [nth_eq]
  rfl

set_option maxHeartbeats 4000000 in
theorem back (d : Dev nD) (f : Front W) (h : Settled W (main_part1 (F := Ideal) d)) :
    W (Proc.devRef .tc main_v79) = fun _ : S_.Idx => perpA (ws W) (xs W) := by
  unfold main_part1 at h
  replace h := h.cons; obtain ⟨v56, h⟩ := h
  replace h := h.cons; obtain ⟨c_2, h⟩ := h
  replace h := h.cons; obtain ⟨v57, h⟩ := h
  replace h := h.cons; obtain ⟨v58, h⟩ := h
  replace h := h.cons; obtain ⟨v59, h⟩ := h
  replace h := h.cons; obtain ⟨c_3, h⟩ := h
  replace h := h.cons; obtain ⟨v60, h⟩ := h
  replace h := h.cons; obtain ⟨v61, h⟩ := h
  replace h := h.cons; obtain ⟨c_4, h⟩ := h
  replace h := h.cons; obtain ⟨v62, h⟩ := h
  replace h := h.cons; obtain ⟨v63, h⟩ := h
  replace h := h.cons; obtain ⟨v64, h⟩ := h
  replace h := h.cons; obtain ⟨v65, h⟩ := h
  replace h := h.cons; obtain ⟨v66, h⟩ := h
  replace h := h.cons; obtain ⟨v67, h⟩ := h
  replace h := h.cons; obtain ⟨cst_5, h⟩ := h
  replace h := h.cons; obtain ⟨v68, h⟩ := h
  replace h := h.cons; obtain ⟨v69, h⟩ := h
  replace h := h.cons; obtain ⟨cst_6, h⟩ := h
  replace h := h.cons; obtain ⟨v70, h⟩ := h
  replace h := h.cons; obtain ⟨cst_7, h⟩ := h
  replace h := h.cons; obtain ⟨v71, h⟩ := h
  replace h := h.cons; obtain ⟨v72, h⟩ := h
  replace h := h.cons; obtain ⟨cst_8, h⟩ := h
  replace h := h.cons; obtain ⟨v73, h⟩ := h
  replace h := h.cons; obtain ⟨v74, h⟩ := h
  replace h := h.cons; obtain ⟨v75, h⟩ := h
  replace h := h.cons; obtain ⟨v76, h⟩ := h
  replace h := h.cons; obtain ⟨cst_9, h⟩ := h
  replace h := h.cons; obtain ⟨v77, h⟩ := h
  replace h := h.cons; obtain ⟨v78, h⟩ := h
  have v79 := h.cons.1
  have c := f.first_code
  have e0 : ∀ n : Fin 32768, W (Proc.devRef .tc main_v67) (ix2 n 0) = BitVec.ofNat 32 n := fun n => by
    rw [at_binary v67, at_unary v65, at_ternary v59, at_binary v56]
    pointwise
    rw [f.numbers n, f.zero n, row_not_negative]
    rfl
  have e1 : ∀ n : Fin 32768, W (Proc.devRef .tc main_v67) (ix2 n 1) = BitVec.ofNat 32 (codes (ws W) (nth (xs W) n) 0) := fun n => by
    rw [at_binary v67, at_unary v66, at_ternary v64, at_binary v61, at_unary v60, at_nullary c_3]
    pointwise
    rw [c n, not_negative]
    rfl
  have e69 : ∀ (n : Fin 32768) (k : Fin 512), W (Proc.devRef .tc main_v69) (ix2 n k) = if k = codes (ws W) (nth (xs W) n) 0 then (1 : EReal) else 0 := fun n k => by
    rw [at_ternary v69]
    refine one_hot _ _ _ (fun n => codes (ws W) (nth (xs W) n) 0) e0 e1 (fun i => congrFun f.zeros i) (fun i => ?_) n k
    rw [at_unary v68, at_nullary cst_5]
    exact Ideal.ofBits_one_f32
  have e72 : ∀ k : Fin 512, W (Proc.devRef .tc main_v72) (ix1 k) = freq (ws W) (xs W) k := fun k => by
    rw [at_binary v72, at_unary v71, at_nullary cst_7, at_binary v70, at_nullary cst_6]
    pointwise
    simp only [e69]
    rw [count_rows]
    rfl
  funext j
  have ej : j = ix0 := funext fun a => a.elim0
  rw [ej, at_unary v79, at_unary v78, at_binary v77, at_nullary cst_9, at_binary v76, at_unary v75, at_binary v74, at_unary v73, at_nullary cst_8]
  pointwise
  simp only [e72]
  rfl

/-- The reference's run: its four results, of the arguments. -/
theorem values (m : (ℓ : Loc nD τ sig) → Buf (Elt Ideal) ℓ) (d : Dev nD) :
    Front (RefRun.final m d) ∧ RefRun.final m d (Proc.devRef .tc main_v79)
      = fun _ : S_.Idx => perpA (ws (RefRun.final m d)) (xs (RefRun.final m d)) := by
  have h := RefRun.settled m d
  unfold main at h
  replace h := h.split ⟨_, by hlo_seq⟩; obtain ⟨h0, h1⟩ := h
  exact ⟨front d h0, back d (front d h0) h1⟩

end Cert.RefEnd
-- ==== Proof.Agree.lean ====
/-
  The kernel and the reference end with the same four results.
-/
module

public import proofs.«01_k».proof.Proof.KernelRun
public import proofs.«01_k».proof.Proof.RefEnd
public import proofs.«01_k».proof.Proof.Frames

@[expose] public section

set_option maxRecDepth 16384

noncomputable section

namespace Cert.Agree

open Idealize.ShloMosaic Idealize.SL.Sem

attribute [local instance] Cert.KernelIdeal.Gen.facts Cert.ReferenceIdeal.Gen.facts Cert.Frames.preFacts

/-- Both run, and their results are the same numbers of the same arguments. -/
theorem agree : Cert.algebraic_KernelIdeal_ReferenceIdeal_pre_codebooks_below_infinity := by
  intro m g m' g' hp he
  refine ⟨fun c => Whole.recA (Held.wts m c) (Held.A0 m c), fun c => Whole.idxA (Held.wts m c) (Held.A0 m c),
    fun c => fun _ : Cert.KernelIdeal.S_.Idx => Whole.commitA (Held.wts m c) (Held.A0 m c),
    fun c => fun _ : Cert.KernelIdeal.S_.Idx => Whole.perpA (Held.wts m c) (Held.A0 m c), ?_, ?_⟩
  · refine (θ_run Cert.KernelIdeal.defs _ _).mono (fun r h c => ?_)
      (θ_run_and (KernelRun.run m g fun c j => Frames.below m hp c j) (Cert.KernelIdeal.Gen.unchanged m g))
    obtain ⟨h0, h1, h2, h3⟩ := h.1 c
    exact ⟨h0, h1, h2, h3, h.2 c⟩
  · refine (θ_run Cert.ReferenceIdeal.defs _ _).mono (fun r h c => ?_) (RefRun.run m' g')
    obtain ⟨f, p⟩ := RefEnd.values m' c
    obtain ⟨a0, a1, a2, a3, a4, a5, a6, a7, a8, a9, a10, a11, a12, a13⟩ := he c
    have k : ∀ b : Ref Cert.ReferenceIdeal.sig .tc, b.idx.val < 14 → RefRun.final m' c (Proc.devRef .tc b) = _ := fun b hb => RefRun.kept m' c b hb
    have hx : RefMain.xs (RefRun.final m' c) = Held.A0 m c := (k _ (by decide)).trans a0
    have hw : RefMain.ws (RefRun.final m' c) = Held.wts m c := by
      unfold RefMain.ws
      rw [k Cert.ReferenceIdeal.main_arg1 (by decide), k Cert.ReferenceIdeal.main_arg2 (by decide), k Cert.ReferenceIdeal.main_arg3 (by decide),
        k Cert.ReferenceIdeal.main_arg4 (by decide), k Cert.ReferenceIdeal.main_arg5 (by decide), k Cert.ReferenceIdeal.main_arg6 (by decide),
        k Cert.ReferenceIdeal.main_arg7 (by decide), k Cert.ReferenceIdeal.main_arg8 (by decide), k Cert.ReferenceIdeal.main_arg9 (by decide),
        k Cert.ReferenceIdeal.main_arg10 (by decide), k Cert.ReferenceIdeal.main_arg11 (by decide), k Cert.ReferenceIdeal.main_arg12 (by decide),
        k Cert.ReferenceIdeal.main_arg13 (by decide), a1, a2, a3, a4, a5, a6, a7, a8, a9, a10, a11, a12, a13]
    have e0 := f.recon_eq
    have e1 := f.codes_eq
    have e2 := f.commit_eq
    rw [hw, hx] at e0 e1 e2 p
    refine ⟨(h c _).trans e0, (h c _).trans e1, (h c _).trans e2, (h c _).trans p, ?_⟩
    have q : ∀ b : Ref Cert.ReferenceIdeal.sig .tc, b.idx.val < 14 → r.2.mem ((c.tc : Thread _ _).loc b) = _ := fun b hb => (h c b).trans (k b hb)
    refine ⟨q _ ?_, q _ ?_, q _ ?_, q _ ?_, q _ ?_, q _ ?_, q _ ?_, q _ ?_, q _ ?_, q _ ?_, q _ ?_, q _ ?_, q _ ?_, q _ ?_⟩ <;> decide

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Frames.preFacts

theorem claim : Cert.Claim := ⟨Cert.Kernel.Gen.facts, Cert.KernelIdeal.Gen.facts, Cert.ReferenceIdeal.Gen.facts,
  Cert.Frames.preFacts, Cert.Frames.kernel, Cert.Frames.kernelIdeal, Cert.Frames.kernelIdeal_pre, Cert.Frames.referenceIdeal,
  Cert.Frames.referenceIdeal_pre, trivial, Cert.Agree.agree⟩

end Cert.Proof

end
